-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  IdealRules.named_const.Statement Cert.KernelIdeal.κ "smooth_scale" .f32 0x34E6D9D3#32 ((7549747 / 17557826306048 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v37)) (v1 : (c : Dev Cert.KernelIdeal.nD) → Buf (Elt Ideal) ((c.tc : Thread Cert.KernelIdeal.nD Cert.KernelIdeal.τ).loc Cert.KernelIdeal.main_v36)) (v2 : (c : Dev Cert.KernelIdeal.nD) → Buf (Elt Ideal) ((c.tc : Thread Cert.KernelIdeal.nD Cert.KernelIdeal.τ).loc Cert.KernelIdeal.main_v23)) (v3 : (c : Dev Cert.KernelIdeal.nD) → Buf (Elt Ideal) ((c.tc : Thread Cert.KernelIdeal.nD Cert.KernelIdeal.τ).loc Cert.KernelIdeal.main_v25)) (v4 : (c : Dev Cert.KernelIdeal.nD) → Buf (Elt Ideal) ((c.tc : Thread Cert.KernelIdeal.nD Cert.KernelIdeal.τ).loc Cert.KernelIdeal.main_v27)) (v5 : (c : Dev Cert.KernelIdeal.nD) → Buf (Elt Ideal) ((c.tc : Thread Cert.KernelIdeal.nD Cert.KernelIdeal.τ).loc Cert.KernelIdeal.main_v30)) (v6 : (c : Dev Cert.KernelIdeal.nD) → Buf (Elt Ideal) ((c.tc : Thread Cert.KernelIdeal.nD Cert.KernelIdeal.τ).loc Cert.KernelIdeal.main_v20_0)) (v7 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_v36) = v1 c
          ∧ r.2.mem ((c.tc : Thread Cert.KernelIdeal.nD Cert.KernelIdeal.τ).loc Cert.KernelIdeal.main_v23) = v2 c
          ∧ r.2.mem ((c.tc : Thread Cert.KernelIdeal.nD Cert.KernelIdeal.τ).loc Cert.KernelIdeal.main_v25) = v3 c
          ∧ r.2.mem ((c.tc : Thread Cert.KernelIdeal.nD Cert.KernelIdeal.τ).loc Cert.KernelIdeal.main_v27) = v4 c
          ∧ r.2.mem ((c.tc : Thread Cert.KernelIdeal.nD Cert.KernelIdeal.τ).loc Cert.KernelIdeal.main_v30) = v5 c
          ∧ r.2.mem ((c.tc : Thread Cert.KernelIdeal.nD Cert.KernelIdeal.τ).loc Cert.KernelIdeal.main_v20_0) = v6 c
          ∧ r.2.mem ((c.tc : Thread Cert.KernelIdeal.nD Cert.KernelIdeal.τ).loc Cert.KernelIdeal.main_v38) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v123) = v0 c
          ∧ r.2.mem ((c.tc : Thread Cert.ReferenceIdeal.nD Cert.ReferenceIdeal.τ).loc Cert.ReferenceIdeal.main_v116) = v1 c
          ∧ r.2.mem ((c.tc : Thread Cert.ReferenceIdeal.nD Cert.ReferenceIdeal.τ).loc Cert.ReferenceIdeal.main_v62) = v2 c
          ∧ r.2.mem ((c.tc : Thread Cert.ReferenceIdeal.nD Cert.ReferenceIdeal.τ).loc Cert.ReferenceIdeal.main_v86) = v3 c
          ∧ r.2.mem ((c.tc : Thread Cert.ReferenceIdeal.nD Cert.ReferenceIdeal.τ).loc Cert.ReferenceIdeal.main_v93) = v4 c
          ∧ r.2.mem ((c.tc : Thread Cert.ReferenceIdeal.nD Cert.ReferenceIdeal.τ).loc Cert.ReferenceIdeal.main_v110) = v5 c
          ∧ r.2.mem ((c.tc : Thread Cert.ReferenceIdeal.nD Cert.ReferenceIdeal.τ).loc Cert.ReferenceIdeal.main_v44) = v6 c
          ∧ r.2.mem ((c.tc : Thread Cert.ReferenceIdeal.nD Cert.ReferenceIdeal.τ).loc Cert.ReferenceIdeal.main_v56) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S16x512x256 : Shape := ⟨3, ![16, 512, 256]⟩
abbrev S32x32x256 : Shape := ⟨3, ![32, 32, 256]⟩
abbrev S_ : Shape := ⟨0, ![]⟩

class Facts : Prop where
  bcast_S_S16x512x256 : S_.BroadcastsInDim S16x512x256 (![] : Fin 0 → Fin S16x512x256.rank)
  reducesTo_S16x512x256_S_d0_1_2 : S16x512x256.ReducesTo [0, 1, 2] S_
  h_S_ : 0 < S_.numel
  bcast_S_S32x32x256 : S_.BroadcastsInDim S32x32x256 (![] : Fin 0 → Fin S32x32x256.rank)
  reducesTo_S32x32x256_S_d0_1_2 : S32x32x256.ReducesTo [0, 1, 2] S_

variable [Facts]

def fn {F : FTy → Type} [FloatOps F] (main_arg0 : FVec F S16x512x256 .f32) (main_arg1 : FVec F S32x32x256 .f32) : IVec S_ 1 :=
  let main_v0 : FVec F S16x512x256 .f32 := Host.absf main_arg0
  let main_cst : FVec F S_ .f32 := constant S_ .f32 0x7F800000#32
  let main_v1 : FVec F S16x512x256 .f32 := broadcastInDim S16x512x256 ![] bcast_S_S16x512x256 main_cst
  let main_v2 : IVec S16x512x256 1 := cmpf .olt main_v0 main_v1
  let main_c : IVec S_ 1 := constantI S_ 1 1#1
  let main_v3 : IVec S_ 1 := (fun x v => Host.reduce IntOp.andi x v reducesTo_S16x512x256_S_d0_1_2 h_S_) main_v2 main_c
  let main_v4 : FVec F S32x32x256 .f32 := Host.absf main_arg1
  let main_cst_0 : FVec F S_ .f32 := constant S_ .f32 0x7F800000#32
  let main_v5 : FVec F S32x32x256 .f32 := broadcastInDim S32x32x256 ![] bcast_S_S32x32x256 main_cst_0
  let main_v6 : IVec S32x32x256 1 := cmpf .olt main_v4 main_v5
  let main_c_1 : IVec S_ 1 := constantI S_ 1 1#1
  let main_v7 : IVec S_ 1 := (fun x v => Host.reduce IntOp.andi x v reducesTo_S32x32x256_S_d0_1_2 h_S_) main_v6 main_c_1
  let main_v8 : IVec S_ 1 := andi main_v3 main_v7
  main_v8
-- ==== Kernel.lean ====
abbrev S16x512x256 : Shape := ⟨3, ![16, 512, 256]⟩
abbrev S32x32x256 : Shape := ⟨3, ![32, 32, 256]⟩
abbrev S8192x256 : Shape := ⟨2, ![8192, 256]⟩
abbrev S1024x256 : Shape := ⟨2, ![1024, 256]⟩
abbrev S512 : Shape := ⟨1, ![512]⟩
abbrev S_ : Shape := ⟨0, ![]⟩
abbrev S512x1 : Shape := ⟨2, ![512, 1]⟩
abbrev S1024 : Shape := ⟨1, ![1024]⟩
abbrev S1x1024 : Shape := ⟨2, ![1, 1024]⟩
abbrev S8192x1024 : Shape := ⟨2, ![8192, 1024]⟩
abbrev S8192x1 : Shape := ⟨2, ![8192, 1]⟩
abbrev S8x1024 : Shape := ⟨2, ![8, 1024]⟩
abbrev S8x128 : Shape := ⟨2, ![8, 128]⟩
abbrev S512x256 : Shape := ⟨2, ![512, 256]⟩
abbrev S512x1024 : Shape := ⟨2, ![512, 1024]⟩
abbrev S1024x1 : Shape := ⟨2, ![1024, 1]⟩
abbrev S1024x1024 : Shape := ⟨2, ![1024, 1024]⟩
abbrev S1x1024x1024 : Shape := ⟨3, ![1, 1024, 1024]⟩
abbrev S1 : Shape := ⟨1, ![1]⟩
abbrev S1x1x1 : Shape := ⟨3, ![1, 1, 1]⟩
abbrev S1x1 : Shape := ⟨2, ![1, 1]⟩
abbrev S511x256 : Shape := ⟨2, ![511, 256]⟩
abbrev S1x511x256 : Shape := ⟨3, ![1, 511, 256]⟩
abbrev S511x1 : Shape := ⟨2, ![511, 1]⟩
abbrev S1x511x1 : Shape := ⟨3, ![1, 511, 1]⟩
abbrev S1x512x1 : Shape := ⟨3, ![1, 512, 1]⟩
abbrev S16x512 : Shape := ⟨2, ![16, 512]⟩

abbrev nBuf : Space → Nat
  | .hbm => 53
  | .vmem => 20
  | .smem => 0
  | _ => 0

abbrev bufTy : (tb : Table) → Fin (tcTables nBuf tb) → BufTy
  | .hbm, ⟨0, _⟩ => ⟨S16x512x256, .f32⟩
  | .hbm, ⟨1, _⟩ => ⟨S32x32x256, .f32⟩
  | .hbm, ⟨2, _⟩ => ⟨S8192x256, .f32⟩
  | .hbm, ⟨3, _⟩ => ⟨S1024x256, .f32⟩
  | .hbm, ⟨4, _⟩ => ⟨S512, .f32⟩
  | .hbm, ⟨5, _⟩ => ⟨S_, .f32⟩
  | .hbm, ⟨6, _⟩ => ⟨S512, .f32⟩
  | .hbm, ⟨7, _⟩ => ⟨S512, .f32⟩
  | .hbm, ⟨8, _⟩ => ⟨S_, .f32⟩
  | .hbm, ⟨9, _⟩ => ⟨S512, .f32⟩
  | .hbm, ⟨10, _⟩ => ⟨S512, .f32⟩
  | .hbm, ⟨11, _⟩ => ⟨S_, .f32⟩
  | .hbm, ⟨12, _⟩ => ⟨S512, .f32⟩
  | .hbm, ⟨13, _⟩ => ⟨S512, .f32⟩
  | .hbm, ⟨14, _⟩ => ⟨S512x1, .f32⟩
  | .hbm, ⟨15, _⟩ => ⟨S1024x256, .f32⟩
  | .hbm, ⟨16, _⟩ => ⟨S_, .f32⟩
  | .hbm, ⟨17, _⟩ => ⟨S1024, .f32⟩
  | .hbm, ⟨18, _⟩ => ⟨S1x1024, .f32⟩
  | .hbm, ⟨19, _⟩ => ⟨S1024x256, .bf16⟩
  | .hbm, ⟨20, _⟩ => ⟨S1024x256, .f32⟩
  | .hbm, ⟨21, _⟩ => ⟨S1024x256, .f32⟩
  | .hbm, ⟨22, _⟩ => ⟨S1024x256, .bf16⟩
  | .hbm, ⟨23, _⟩ => ⟨S1024x256, .f32⟩
  | .hbm, ⟨24, _⟩ => ⟨S1024x256, .f32⟩
  | .hbm, ⟨25, _⟩ => ⟨S1024x256, .bf16⟩
  | .hbm, ⟨26, _⟩ => ⟨S8192x1024, .f32⟩
  | .hbm, ⟨27, _⟩ => ⟨S8192x256, .f32⟩
  | .hbm, ⟨28, _⟩ => ⟨S8192x1, .i32⟩
  | .hbm, ⟨29, _⟩ => ⟨S8x1024, .f32⟩
  | .hbm, ⟨30, _⟩ => ⟨S8x128, .f32⟩
  | .hbm, ⟨31, _⟩ => ⟨S8x128, .f32⟩
  | .hbm, ⟨32, _⟩ => ⟨S1x1, .f32⟩
  | .hbm, ⟨33, _⟩ => ⟨S_, .f32⟩
  | .hbm, ⟨34, _⟩ => ⟨S1x1, .f32⟩
  | .hbm, ⟨35, _⟩ => ⟨S_, .f32⟩
  | .hbm, ⟨36, _⟩ => ⟨S1x1, .f32⟩
  | .hbm, ⟨37, _⟩ => ⟨S_, .f32⟩
  | .hbm, ⟨38, _⟩ => ⟨S1x1, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S16x512x256, .f32⟩
  | .hbm, ⟨52, _⟩ => ⟨S16x512, .i32⟩
  | .local _ .vmem, ⟨0, _⟩ => ⟨S512x256, .f32⟩
  | .local _ .vmem, ⟨1, _⟩ => ⟨S512x256, .f32⟩
  | .local _ .vmem, ⟨2, _⟩ => ⟨S1024x256, .f32⟩
  | .local _ .vmem, ⟨3, _⟩ => ⟨S1024x256, .bf16⟩
  | .local _ .vmem, ⟨4, _⟩ => ⟨S1024x256, .bf16⟩
  | .local _ .vmem, ⟨5, _⟩ => ⟨S1024x256, .bf16⟩
  | .local _ .vmem, ⟨6, _⟩ => ⟨S512x1, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x256, .f32⟩
  | .local _ .vmem, ⟨11, _⟩ => ⟨S512x256, .f32⟩
  | .local _ .vmem, ⟨12, _⟩ => ⟨S512x1, .i32⟩
  | .local _ .vmem, ⟨13, _⟩ => ⟨S512x1, .i32⟩
  | .local _ .vmem, ⟨14, _⟩ => ⟨S8x1024, .f32⟩
  | .local _ .vmem, ⟨15, _⟩ => ⟨S8x128, .f32⟩
  | .local _ .vmem, ⟨16, _⟩ => ⟨S512x1024, .f32⟩
  | .local _ .vmem, ⟨17, _⟩ => ⟨S512x1024, .f32⟩
  | .local _ .vmem, ⟨18, _⟩ => ⟨S8x1024, .f32⟩
  | .local _ .vmem, ⟨19, _⟩ => ⟨S8x128, .f32⟩
  | _, _ => ⟨S16x512x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_2 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20_0 : Ref sig .tc := ⟨.hbm, 26, rfl⟩
abbrev main_v20_1 : Ref sig .tc := ⟨.hbm, 27, rfl⟩
abbrev main_v20_2 : Ref sig .tc := ⟨.hbm, 28, rfl⟩
abbrev main_v20_3 : Ref sig .tc := ⟨.hbm, 29, rfl⟩
abbrev main_v20_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_cst_4 : Ref sig .tc := ⟨.hbm, 42, rfl⟩
abbrev main_v31 : Ref sig .tc := ⟨.hbm, 43, rfl⟩
abbrev main_v32 : Ref sig .tc := ⟨.hbm, 44, rfl⟩
abbrev main_cst_5 : Ref sig .tc := ⟨.hbm, 45, rfl⟩
abbrev main_v33 : Ref sig .tc := ⟨.hbm, 46, rfl⟩
abbrev main_v34 : Ref sig .tc := ⟨.hbm, 47, rfl⟩
abbrev main_cst_6 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg11_0 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg2_0 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem11_0 : DmaSem sig := 15
abbrev cc1_sem0_0 : DmaSem sig := 16
abbrev cc1_sem0_1 : DmaSem sig := 17
abbrev cc1_sem1_0 : DmaSem sig := 18
abbrev cc1_sem2_0 : DmaSem sig := 19

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S8x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S8x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S8x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]
-- ==== KernelIdeal.lean ====
variable {F : FTy → Type} [FloatOps F] [Named F]
def κ : String → Option EReal := fun
  | "smooth_scale" => some ((7549747 / 17557826306048 : ℝ) : EReal)
  | _ => none
-- ==== ReferenceIdeal.lean ====
abbrev S16x512x256 : Shape := ⟨3, ![16, 512, 256]⟩
abbrev S32x32x256 : Shape := ⟨3, ![32, 32, 256]⟩
abbrev S512 : Shape := ⟨1, ![512]⟩
abbrev S_ : Shape := ⟨0, ![]⟩
abbrev S1x512x1 : Shape := ⟨3, ![1, 512, 1]⟩
abbrev S8192x256 : Shape := ⟨2, ![8192, 256]⟩
abbrev S1024x256 : Shape := ⟨2, ![1024, 256]⟩
abbrev S8192 : Shape := ⟨1, ![8192]⟩
abbrev S8192x1 : Shape := ⟨2, ![8192, 1]⟩
abbrev S1024 : Shape := ⟨1, ![1024]⟩
abbrev S1x1024 : Shape := ⟨2, ![1, 1024]⟩
abbrev S8192x1024 : Shape := ⟨2, ![8192, 1024]⟩
abbrev S256x1024 : Shape := ⟨2, ![256, 1024]⟩
abbrev S16x512 : Shape := ⟨2, ![16, 512]⟩
abbrev S1024x1 : Shape := ⟨2, ![1024, 1]⟩
abbrev S1024x1024 : Shape := ⟨2, ![1024, 1024]⟩
abbrev S16x511x256 : Shape := ⟨3, ![16, 511, 256]⟩
abbrev S16x511 : Shape := ⟨2, ![16, 511]⟩
abbrev S16 : Shape := ⟨1, ![16]⟩
abbrev S1 : Shape := ⟨1, ![1]⟩
abbrev S1x1 : Shape := ⟨2, ![1, 1]⟩

abbrev nBuf : Space → Nat
  | .hbm => 275
  | .vmem => 0
  | .smem => 0
  | _ => 0

abbrev hbmTy0_0 (i : Nat) : BufTy := match i % 128 with
  | 0 => ⟨S16x512x256, .f32⟩
  | 1 => ⟨S32x32x256, .f32⟩
  | 2 => ⟨S512, .f32⟩
  | 3 => ⟨S_, .f32⟩
  | 4 => ⟨S512, .f32⟩
  | 5 => ⟨S512, .f32⟩
  | 6 => ⟨S_, .f32⟩
  | 7 => ⟨S512, .f32⟩
  | 8 => ⟨S512, .f32⟩
  | 9 => ⟨S_, .f32⟩
  | 10 => ⟨S512, .f32⟩
  | 11 => ⟨S512, .f32⟩
  | 12 => ⟨S1x512x1, .f32⟩
  | 13 => ⟨S16x512x256, .f32⟩
  | 14 => ⟨S16x512x256, .f32⟩
  | 15 => ⟨S8192x256, .f32⟩
  | 16 => ⟨S1024x256, .f32⟩
  | 17 => ⟨S8192x256, .f32⟩
  | 18 => ⟨S_, .f32⟩
  | 19 => ⟨S8192, .f32⟩
  | 20 => ⟨S8192x1, .f32⟩
  | 21 => ⟨S1024x256, .f32⟩
  | 22 => ⟨S_, .f32⟩
  | 23 => ⟨S1024, .f32⟩
  | 24 => ⟨S1x1024, .f32⟩
  | 25 => ⟨S8192x1024, .f32⟩
  | 26 => ⟨S8192x1024, .f32⟩
  | 27 => ⟨S8192x1024, .f32⟩
  | 28 => ⟨S256x1024, .f32⟩
  | 29 => ⟨S8192x1024, .f32⟩
  | 30 => ⟨S_, .f32⟩
  | 31 => ⟨S8192x1024, .f32⟩
  | 32 => ⟨S8192x1024, .f32⟩
  | 33 => ⟨S8192x1024, .f32⟩
  | 34 => ⟨S_, .f32⟩
  | 35 => ⟨S8192x1024, .f32⟩
  | 36 => ⟨S8192x1024, .f32⟩
  | 37 => ⟨S_, .f32⟩
  | 38 => ⟨S8192x1024, .f32⟩
  | 39 => ⟨S8192x1024, .i1⟩
  | 40 => ⟨S_, .f32⟩
  | 41 => ⟨S_, .f32⟩
  | 42 => ⟨S8192x1024, .f32⟩
  | 43 => ⟨S8192x1024, .f32⟩
  | 44 => ⟨S8192x1024, .f32⟩
  | 45 => ⟨S_, .f32⟩
  | 46 => ⟨S_, .f32⟩
  | 47 => ⟨S8192x1024, .f32⟩
  | 48 => ⟨S8192x1024, .f32⟩
  | 49 => ⟨S_, .f32⟩
  | 50 => ⟨S8192x1024, .f32⟩
  | 51 => ⟨S8192x1024, .f32⟩
  | 52 => ⟨S_, .f32⟩
  | 53 => ⟨S8192x1024, .f32⟩
  | 54 => ⟨S8192x1024, .f32⟩
  | 55 => ⟨S_, .f32⟩
  | 56 => ⟨S8192x1024, .f32⟩
  | 57 => ⟨S8192x1024, .f32⟩
  | 58 => ⟨S_, .f32⟩
  | 59 => ⟨S8192x1024, .f32⟩
  | 60 => ⟨S8192x1024, .f32⟩
  | 61 => ⟨S_, .f32⟩
  | 62 => ⟨S8192, .f32⟩
  | 63 => ⟨S8192x1, .f32⟩
  | 64 => ⟨S8192x1024, .f32⟩
  | 65 => ⟨S8192x1024, .f32⟩
  | 66 => ⟨S8192x1024, .f32⟩
  | 67 => ⟨S8192x1024, .f32⟩
  | 68 => ⟨S_, .f32⟩
  | 69 => ⟨S1024, .f32⟩
  | 70 => ⟨S1x1024, .f32⟩
  | 71 => ⟨S8192x1024, .f32⟩
  | 72 => ⟨S8192x1024, .f32⟩
  | 73 => ⟨S_, .f32⟩
  | 74 => ⟨S8192, .f32⟩
  | 75 => ⟨S8192x1, .f32⟩
  | 76 => ⟨S8192x1024, .f32⟩
  | 77 => ⟨S8192x1024, .f32⟩
  | 78 => ⟨S8192x1024, .i32⟩
  | 79 => ⟨S_, .f32⟩
  | 80 => ⟨S_, .i32⟩
  | 81 => ⟨S8192, .f32⟩
  | 82 => ⟨S8192, .i32⟩
  | 83 => ⟨S16x512, .i32⟩
  | 84 => ⟨S8192x1024, .f32⟩
  | 85 => ⟨S8192x1024, .f32⟩
  | 86 => ⟨S8192x1024, .f32⟩
  | 87 => ⟨S8192x1024, .f32⟩
  | 88 => ⟨S_, .f32⟩
  | 89 => ⟨S_, .f32⟩
  | 90 => ⟨S_, .f32⟩
  | 91 => ⟨S_, .f32⟩
  | 92 => ⟨S1024x256, .f32⟩
  | 93 => ⟨S_, .f32⟩
  | 94 => ⟨S1024, .f32⟩
  | 95 => ⟨S1024x1, .f32⟩
  | 96 => ⟨S1024x256, .f32⟩
  | 97 => ⟨S_, .f32⟩
  | 98 => ⟨S1024, .f32⟩
  | 99 => ⟨S1x1024, .f32⟩
  | 100 => ⟨S1024x1024, .f32⟩
  | 101 => ⟨S1024x1024, .f32⟩
  | 102 => ⟨S1024x1024, .f32⟩
  | 103 => ⟨S256x1024, .f32⟩
  | 104 => ⟨S1024x1024, .f32⟩
  | 105 => ⟨S_, .f32⟩
  | 106 => ⟨S1024x1024, .f32⟩
  | 107 => ⟨S1024x1024, .f32⟩
  | 108 => ⟨S1024x1024, .f32⟩
  | 109 => ⟨S_, .f32⟩
  | 110 => ⟨S1024x1024, .f32⟩
  | 111 => ⟨S1024x1024, .f32⟩
  | 112 => ⟨S_, .f32⟩
  | 113 => ⟨S1024x1024, .f32⟩
  | 114 => ⟨S1024x1024, .i1⟩
  | 115 => ⟨S_, .f32⟩
  | 116 => ⟨S_, .f32⟩
  | 117 => ⟨S1024x1024, .f32⟩
  | 118 => ⟨S1024x1024, .f32⟩
  | 119 => ⟨S1024x1024, .f32⟩
  | 120 => ⟨S_, .f32⟩
  | 121 => ⟨S_, .f32⟩
  | 122 => ⟨S1024x1024, .f32⟩
  | 123 => ⟨S1024x1024, .f32⟩
  | 124 => ⟨S_, .f32⟩
  | 125 => ⟨S_, .f32⟩
  | 126 => ⟨S_, .f32⟩
  | 127 => ⟨S_, .f32⟩
  | _ => ⟨S16x512x256, .f32⟩

abbrev hbmTy0_1 (i : Nat) : BufTy := match i % 128 with
  | 0 => ⟨S_, .f32⟩
  | 1 => ⟨S16x511x256, .f32⟩
  | 2 => ⟨S16x511x256, .f32⟩
  | 3 => ⟨S16x511x256, .f32⟩
  | 4 => ⟨S16x511x256, .f32⟩
  | 5 => ⟨S_, .f32⟩
  | 6 => ⟨S_, .f32⟩
  | 7 => ⟨S_, .f32⟩
  | 8 => ⟨S_, .f32⟩
  | 9 => ⟨S_, .f32⟩
  | 10 => ⟨S_, .f32⟩
  | 11 => ⟨S16x511, .i32⟩
  | 12 => ⟨S16x511, .i32⟩
  | 13 => ⟨S_, .i32⟩
  | 14 => ⟨S_, .i32⟩
  | 15 => ⟨S16x511, .i32⟩
  | 16 => ⟨S16x511, .i32⟩
  | 17 => ⟨S16x511, .i32⟩
  | 18 => ⟨S_, .i32⟩
  | 19 => ⟨S16x511, .i32⟩
  | 20 => ⟨S16x511, .i1⟩
  | 21 => ⟨S16x511, .i32⟩
  | 22 => ⟨S16x511, .i32⟩
  | 23 => ⟨S_, .i32⟩
  | 24 => ⟨S16x511, .i32⟩
  | 25 => ⟨S16x511, .i1⟩
  | 26 => ⟨S16x511, .i1⟩
  | 27 => ⟨S_, .i32⟩
  | 28 => ⟨S16x511, .i32⟩
  | 29 => ⟨S16x511, .i32⟩
  | 30 => ⟨S16x511, .i32⟩
  | 31 => ⟨S_, .i32⟩
  | 32 => ⟨S_, .i32⟩
  | 33 => ⟨S_, .i32⟩
  | 34 => ⟨S_, .i1⟩
  | 35 => ⟨S_, .i32⟩
  | 36 => ⟨S_, .i32⟩
  | 37 => ⟨S16x511, .i32⟩
  | 38 => ⟨S16x511, .i32⟩
  | 39 => ⟨S_, .i32⟩
  | 40 => ⟨S16x511, .i32⟩
  | 41 => ⟨S16x511, .i1⟩
  | 42 => ⟨S_, .i32⟩
  | 43 => ⟨S16x511, .i32⟩
  | 44 => ⟨S16x511, .i1⟩
  | 45 => ⟨S_, .i32⟩
  | 46 => ⟨S_, .i1⟩
  | 47 => ⟨S16x511, .i1⟩
  | 48 => ⟨S16x511, .i1⟩
  | 49 => ⟨S16x511, .i1⟩
  | 50 => ⟨S16x511, .i32⟩
  | 51 => ⟨S16x511, .i32⟩
  | 52 => ⟨S16x511, .i32⟩
  | 53 => ⟨S_, .i32⟩
  | 54 => ⟨S_, .i32⟩
  | 55 => ⟨S16x511, .i32⟩
  | 56 => ⟨S16x511, .i32⟩
  | 57 => ⟨S16x511, .i32⟩
  | 58 => ⟨S_, .i32⟩
  | 59 => ⟨S16x511, .i32⟩
  | 60 => ⟨S16x511, .i1⟩
  | 61 => ⟨S16x511, .i32⟩
  | 62 => ⟨S16x511, .i32⟩
  | 63 => ⟨S_, .i32⟩
  | 64 => ⟨S16x511, .i32⟩
  | 65 => ⟨S16x511, .i1⟩
  | 66 => ⟨S16x511, .i1⟩
  | 67 => ⟨S_, .i32⟩
  | 68 => ⟨S16x511, .i32⟩
  | 69 => ⟨S16x511, .i32⟩
  | 70 => ⟨S16x511, .i32⟩
  | 71 => ⟨S_, .i32⟩
  | 72 => ⟨S_, .i32⟩
  | 73 => ⟨S_, .i32⟩
  | 74 => ⟨S_, .i1⟩
  | 75 => ⟨S_, .i32⟩
  | 76 => ⟨S_, .i32⟩
  | 77 => ⟨S16x511, .i32⟩
  | 78 => ⟨S16x511, .i32⟩
  | 79 => ⟨S_, .i32⟩
  | 80 => ⟨S16x511, .i32⟩
  | 81 => ⟨S16x511, .i1⟩
  | 82 => ⟨S_, .i32⟩
  | 83 => ⟨S16x511, .i32⟩
  | 84 => ⟨S16x511, .i1⟩
  | 85 => ⟨S_, .i32⟩
  | 86 => ⟨S_, .i1⟩
  | 87 => ⟨S16x511, .i1⟩
  | 88 => ⟨S16x511, .i1⟩
  | 89 => ⟨S16x511, .i1⟩
  | 90 => ⟨S16x511, .i32⟩
  | 91 => ⟨S16x511, .i32⟩
  | 92 => ⟨S16x511, .i32⟩
  | 93 => ⟨S16x511, .i32⟩
  | 94 => ⟨S16x511, .i32⟩
  | 95 => ⟨S16x511, .i32⟩
  | 96 => ⟨S16x511, .i32⟩
  | 97 => ⟨S16x511, .i32⟩
  | 98 => ⟨S16x511, .f32⟩
  | 99 => ⟨S_, .f32⟩
  | 100 => ⟨S16, .f32⟩
  | 101 => ⟨S_, .f32⟩
  | 102 => ⟨S16, .f32⟩
  | 103 => ⟨S16, .f32⟩
  | 104 => ⟨S_, .f32⟩
  | 105 => ⟨S_, .f32⟩
  | 106 => ⟨S_, .f32⟩
  | 107 => ⟨S_, .f32⟩
  | 108 => ⟨S_, .f32⟩
  | 109 => ⟨S_, .f32⟩
  | 110 => ⟨S_, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S8192, .i32⟩
  | 118 => ⟨S_, .i32⟩
  | 119 => ⟨S8192, .i32⟩
  | 120 => ⟨S8192, .i1⟩
  | 121 => ⟨S_, .i32⟩
  | 122 => ⟨S8192, .i32⟩
  | 123 => ⟨S8192, .i32⟩
  | 124 => ⟨S8192, .i32⟩
  | 125 => ⟨S8192x1, .i32⟩
  | 126 => ⟨S1, .i32⟩
  | 127 => ⟨S_, .i32⟩
  | _ => ⟨S16x512x256, .f32⟩

abbrev hbmTy0_2 (i : Nat) : BufTy := match i % 128 with
  | 0 => ⟨S8192x1, .i32⟩
  | 1 => ⟨S8192x1, .i1⟩
  | 2 => ⟨S1x1, .i32⟩
  | 3 => ⟨S8192x1, .i32⟩
  | 4 => ⟨S8192x1, .i1⟩
  | 5 => ⟨S8192x1, .i1⟩
  | 6 => ⟨S_, .i1⟩
  | 7 => ⟨S8192, .i1⟩
  | 8 => ⟨S8192x256, .f32⟩
  | 9 => ⟨S8192x256, .i1⟩
  | 10 => ⟨S_, .f32⟩
  | 11 => ⟨S8192x256, .f32⟩
  | 12 => ⟨S8192x256, .f32⟩
  | 13 => ⟨S16x512x256, .f32⟩
  | 14 => ⟨S16x512x256, .f32⟩
  | 15 => ⟨S_, .f32⟩
  | 16 => ⟨S16x512x256, .f32⟩
  | 17 => ⟨S16x512x256, .f32⟩
  | 18 => ⟨S16x512x256, .f32⟩
  | _ => ⟨S16x512x256, .f32⟩

abbrev hbmTy (i : Nat) : BufTy := match i / 128 with
  | 0 => hbmTy0_0 i
  | 1 => hbmTy0_1 i
  | 2 => hbmTy0_2 i
  | _ => ⟨S16x512x256, .f32⟩

abbrev bufTy : (tb : Table) → Fin (tcTables nBuf tb) → BufTy
  | .hbm, ⟨i, _⟩ => hbmTy i
  | _, _ => ⟨S16x512x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_3 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_cst_4 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_cst_5 : Ref sig .tc := ⟨.hbm, 34, rfl⟩
abbrev main_v26 : Ref sig .tc := ⟨.hbm, 35, rfl⟩
abbrev main_v27 : Ref sig .tc := ⟨.hbm, 36, rfl⟩
abbrev main_cst_6 : Ref sig .tc := ⟨.hbm, 37, rfl⟩
abbrev main_v28 : Ref sig .tc := ⟨.hbm, 38, rfl⟩
abbrev main_v29 : Ref sig .tc := ⟨.hbm, 39, rfl⟩
abbrev main_cst_7 : Ref sig .tc := ⟨.hbm, 40, rfl⟩
abbrev main_call0_v0 : Ref sig .tc := ⟨.hbm, 41, rfl⟩
abbrev main_call0_v1 : Ref sig .tc := ⟨.hbm, 42, rfl⟩
abbrev main_v30 : Ref sig .tc := ⟨.hbm, 43, rfl⟩
abbrev main_v31 : Ref sig .tc := ⟨.hbm, 44, rfl⟩
abbrev main_cst_8 : Ref sig .tc := ⟨.hbm, 45, rfl⟩
abbrev main_call1_v0 : Ref sig .tc := ⟨.hbm, 46, rfl⟩
abbrev main_call1_v1 : Ref sig .tc := ⟨.hbm, 47, rfl⟩
abbrev main_v32 : Ref sig .tc := ⟨.hbm, 48, rfl⟩
abbrev main_cst_9 : Ref sig .tc := ⟨.hbm, 49, rfl⟩
abbrev main_v33 : Ref sig .tc := ⟨.hbm, 50, rfl⟩
abbrev main_v34 : Ref sig .tc := ⟨.hbm, 51, rfl⟩
abbrev main_cst_10 : Ref sig .tc := ⟨.hbm, 52, rfl⟩
abbrev main_v35 : Ref sig .tc := ⟨.hbm, 53, rfl⟩
abbrev main_v36 : Ref sig .tc := ⟨.hbm, 54, rfl⟩
abbrev main_cst_11 : Ref sig .tc := ⟨.hbm, 55, rfl⟩
abbrev main_v37 : Ref sig .tc := ⟨.hbm, 56, rfl⟩
abbrev main_v38 : Ref sig .tc := ⟨.hbm, 57, rfl⟩
abbrev main_cst_12 : Ref sig .tc := ⟨.hbm, 58, rfl⟩
abbrev main_v39 : Ref sig .tc := ⟨.hbm, 59, rfl⟩
abbrev main_v40 : Ref sig .tc := ⟨.hbm, 60, rfl⟩
abbrev main_cst_13 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_14 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_cst_15 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_call2_v0 : Ref sig .tc := ⟨.hbm, 78, rfl⟩
abbrev main_call2_cst : Ref sig .tc := ⟨.hbm, 79, rfl⟩
abbrev main_call2_c : Ref sig .tc := ⟨.hbm, 80, rfl⟩
abbrev main_call2_v1_0 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_cst_16 : Ref sig .tc := ⟨.hbm, 88, rfl⟩
abbrev main_v61 : Ref sig .tc := ⟨.hbm, 89, rfl⟩
abbrev main_cst_17 : Ref sig .tc := ⟨.hbm, 90, rfl⟩
abbrev main_v62 : Ref sig .tc := ⟨.hbm, 91, rfl⟩
abbrev main_v63 : Ref sig .tc := ⟨.hbm, 92, rfl⟩
abbrev main_cst_18 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_cst_19 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_cst_20 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_21 : Ref sig .tc := ⟨.hbm, 109, rfl⟩
abbrev main_v77 : Ref sig .tc := ⟨.hbm, 110, rfl⟩
abbrev main_v78 : Ref sig .tc := ⟨.hbm, 111, rfl⟩
abbrev main_cst_22 : Ref sig .tc := ⟨.hbm, 112, rfl⟩
abbrev main_v79 : Ref sig .tc := ⟨.hbm, 113, rfl⟩
abbrev main_v80 : Ref sig .tc := ⟨.hbm, 114, rfl⟩
abbrev main_cst_23 : Ref sig .tc := ⟨.hbm, 115, rfl⟩
abbrev main_call3_v0 : Ref sig .tc := ⟨.hbm, 116, rfl⟩
abbrev main_call3_v1 : Ref sig .tc := ⟨.hbm, 117, rfl⟩
abbrev main_v81 : Ref sig .tc := ⟨.hbm, 118, rfl⟩
abbrev main_v82 : Ref sig .tc := ⟨.hbm, 119, rfl⟩
abbrev main_cst_24 : Ref sig .tc := ⟨.hbm, 120, rfl⟩
abbrev main_call4_v0 : Ref sig .tc := ⟨.hbm, 121, rfl⟩
abbrev main_call4_v1 : Ref sig .tc := ⟨.hbm, 122, rfl⟩
abbrev main_v83 : Ref sig .tc := ⟨.hbm, 123, rfl⟩
abbrev main_cst_25 : Ref sig .tc := ⟨.hbm, 124, rfl⟩
abbrev main_v84 : Ref sig .tc := ⟨.hbm, 125, rfl⟩
abbrev main_cst_26 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_cst_27 : Ref sig .tc := ⟨.hbm, 133, rfl⟩
abbrev main_v91 : Ref sig .tc := ⟨.hbm, 134, rfl⟩
abbrev main_cst_28 : Ref sig .tc := ⟨.hbm, 135, rfl⟩
abbrev main_v92 : Ref sig .tc := ⟨.hbm, 136, rfl⟩
abbrev main_cst_29 : Ref sig .tc := ⟨.hbm, 137, rfl⟩
abbrev main_v93 : Ref sig .tc := ⟨.hbm, 138, rfl⟩
abbrev main_v94 : Ref sig .tc := ⟨.hbm, 139, rfl⟩
abbrev main_v95 : Ref sig .tc := ⟨.hbm, 140, rfl⟩
abbrev main_c : Ref sig .tc := ⟨.hbm, 141, rfl⟩
abbrev main_call5_v0 : Ref sig .tc := ⟨.hbm, 142, rfl⟩
abbrev main_call5_v1 : Ref sig .tc := ⟨.hbm, 143, rfl⟩
abbrev main_call5_v2 : Ref sig .tc := ⟨.hbm, 144, rfl⟩
abbrev main_call5_v3 : Ref sig .tc := ⟨.hbm, 145, rfl⟩
abbrev main_call5_v4 : Ref sig .tc := ⟨.hbm, 146, rfl⟩
abbrev main_call5_v5 : Ref sig .tc := ⟨.hbm, 147, rfl⟩
abbrev main_call5_v6 : Ref sig .tc := ⟨.hbm, 148, rfl⟩
abbrev main_call5_v7 : Ref sig .tc := ⟨.hbm, 149, rfl⟩
abbrev main_call5_v8 : Ref sig .tc := ⟨.hbm, 150, rfl⟩
abbrev main_call5_c : Ref sig .tc := ⟨.hbm, 151, rfl⟩
abbrev main_call5_v9 : Ref sig .tc := ⟨.hbm, 152, rfl⟩
abbrev main_call5_v10 : Ref sig .tc := ⟨.hbm, 153, rfl⟩
abbrev main_call5_v11 : Ref sig .tc := ⟨.hbm, 154, rfl⟩
abbrev main_call5_c_0 : Ref sig .tc := ⟨.hbm, 155, rfl⟩
abbrev main_call5_v12 : Ref sig .tc := ⟨.hbm, 156, rfl⟩
abbrev main_call5_v13 : Ref sig .tc := ⟨.hbm, 157, rfl⟩
abbrev main_v96 : Ref sig .tc := ⟨.hbm, 158, rfl⟩
abbrev main_c_30 : Ref sig .tc := ⟨.hbm, 159, rfl⟩
abbrev main_call6_v0 : Ref sig .tc := ⟨.hbm, 160, rfl⟩
abbrev main_call6_c : Ref sig .tc := ⟨.hbm, 161, rfl⟩
abbrev main_call6_v1 : Ref sig .tc := ⟨.hbm, 162, rfl⟩
abbrev main_call6_c_0 : Ref sig .tc := ⟨.hbm, 163, rfl⟩
abbrev main_call6_v2 : Ref sig .tc := ⟨.hbm, 164, rfl⟩
abbrev main_call6_v3 : Ref sig .tc := ⟨.hbm, 165, rfl⟩
abbrev main_call6_v4 : Ref sig .tc := ⟨.hbm, 166, rfl⟩
abbrev main_call6_c_1 : Ref sig .tc := ⟨.hbm, 167, rfl⟩
abbrev main_call6_v5 : Ref sig .tc := ⟨.hbm, 168, rfl⟩
abbrev main_call6_v6 : Ref sig .tc := ⟨.hbm, 169, rfl⟩
abbrev main_call6_c_2 : Ref sig .tc := ⟨.hbm, 170, rfl⟩
abbrev main_call6_v7 : Ref sig .tc := ⟨.hbm, 171, rfl⟩
abbrev main_call6_v8 : Ref sig .tc := ⟨.hbm, 172, rfl⟩
abbrev main_call6_c_3 : Ref sig .tc := ⟨.hbm, 173, rfl⟩
abbrev main_call6_v9 : Ref sig .tc := ⟨.hbm, 174, rfl⟩
abbrev main_call6_v10 : Ref sig .tc := ⟨.hbm, 175, rfl⟩
abbrev main_call6_v11 : Ref sig .tc := ⟨.hbm, 176, rfl⟩
abbrev main_call6_v12 : Ref sig .tc := ⟨.hbm, 177, rfl⟩
abbrev main_call6_v13 : Ref sig .tc := ⟨.hbm, 178, rfl⟩
abbrev main_call6_v14 : Ref sig .tc := ⟨.hbm, 179, rfl⟩
abbrev main_v97 : Ref sig .tc := ⟨.hbm, 180, rfl⟩
abbrev main_c_31 : Ref sig .tc := ⟨.hbm, 181, rfl⟩
abbrev main_call7_v0 : Ref sig .tc := ⟨.hbm, 182, rfl⟩
abbrev main_call7_v1 : Ref sig .tc := ⟨.hbm, 183, rfl⟩
abbrev main_call7_v2 : Ref sig .tc := ⟨.hbm, 184, rfl⟩
abbrev main_call7_v3 : Ref sig .tc := ⟨.hbm, 185, rfl⟩
abbrev main_call7_v4 : Ref sig .tc := ⟨.hbm, 186, rfl⟩
abbrev main_call7_v5 : Ref sig .tc := ⟨.hbm, 187, rfl⟩
abbrev main_call7_v6 : Ref sig .tc := ⟨.hbm, 188, rfl⟩
abbrev main_call7_v7 : Ref sig .tc := ⟨.hbm, 189, rfl⟩
abbrev main_call7_v8 : Ref sig .tc := ⟨.hbm, 190, rfl⟩
abbrev main_call7_c : Ref sig .tc := ⟨.hbm, 191, rfl⟩
abbrev main_call7_v9 : Ref sig .tc := ⟨.hbm, 192, rfl⟩
abbrev main_call7_v10 : Ref sig .tc := ⟨.hbm, 193, rfl⟩
abbrev main_call7_v11 : Ref sig .tc := ⟨.hbm, 194, rfl⟩
abbrev main_call7_c_0 : Ref sig .tc := ⟨.hbm, 195, rfl⟩
abbrev main_call7_v12 : Ref sig .tc := ⟨.hbm, 196, rfl⟩
abbrev main_call7_v13 : Ref sig .tc := ⟨.hbm, 197, rfl⟩
abbrev main_v98 : Ref sig .tc := ⟨.hbm, 198, rfl⟩
abbrev main_c_32 : Ref sig .tc := ⟨.hbm, 199, rfl⟩
abbrev main_call8_v0 : Ref sig .tc := ⟨.hbm, 200, rfl⟩
abbrev main_call8_c : Ref sig .tc := ⟨.hbm, 201, rfl⟩
abbrev main_call8_v1 : Ref sig .tc := ⟨.hbm, 202, rfl⟩
abbrev main_call8_c_0 : Ref sig .tc := ⟨.hbm, 203, rfl⟩
abbrev main_call8_v2 : Ref sig .tc := ⟨.hbm, 204, rfl⟩
abbrev main_call8_v3 : Ref sig .tc := ⟨.hbm, 205, rfl⟩
abbrev main_call8_v4 : Ref sig .tc := ⟨.hbm, 206, rfl⟩
abbrev main_call8_c_1 : Ref sig .tc := ⟨.hbm, 207, rfl⟩
abbrev main_call8_v5 : Ref sig .tc := ⟨.hbm, 208, rfl⟩
abbrev main_call8_v6 : Ref sig .tc := ⟨.hbm, 209, rfl⟩
abbrev main_call8_c_2 : Ref sig .tc := ⟨.hbm, 210, rfl⟩
abbrev main_call8_v7 : Ref sig .tc := ⟨.hbm, 211, rfl⟩
abbrev main_call8_v8 : Ref sig .tc := ⟨.hbm, 212, rfl⟩
abbrev main_call8_c_3 : Ref sig .tc := ⟨.hbm, 213, rfl⟩
abbrev main_call8_v9 : Ref sig .tc := ⟨.hbm, 214, rfl⟩
abbrev main_call8_v10 : Ref sig .tc := ⟨.hbm, 215, rfl⟩
abbrev main_call8_v11 : Ref sig .tc := ⟨.hbm, 216, rfl⟩
abbrev main_call8_v12 : Ref sig .tc := ⟨.hbm, 217, rfl⟩
abbrev main_call8_v13 : Ref sig .tc := ⟨.hbm, 218, rfl⟩
abbrev main_call8_v14 : Ref sig .tc := ⟨.hbm, 219, rfl⟩
abbrev main_v99 : Ref sig .tc := ⟨.hbm, 220, rfl⟩
abbrev main_v100 : Ref sig .tc := ⟨.hbm, 221, rfl⟩
abbrev main_v101 : Ref sig .tc := ⟨.hbm, 222, rfl⟩
abbrev main_v102 : Ref sig .tc := ⟨.hbm, 223, rfl⟩
abbrev main_v103 : Ref sig .tc := ⟨.hbm, 224, rfl⟩
abbrev main_v104 : Ref sig .tc := ⟨.hbm, 225, rfl⟩
abbrev main_v105 : Ref sig .tc := ⟨.hbm, 226, rfl⟩
abbrev main_cst_33 : Ref sig .tc := ⟨.hbm, 227, rfl⟩
abbrev main_v106 : Ref sig .tc := ⟨.hbm, 228, rfl⟩
abbrev main_cst_34 : Ref sig .tc := ⟨.hbm, 229, rfl⟩
abbrev main_v107 : Ref sig .tc := ⟨.hbm, 230, rfl⟩
abbrev main_v108 : Ref sig .tc := ⟨.hbm, 231, rfl⟩
abbrev main_cst_35 : Ref sig .tc := ⟨.hbm, 232, rfl⟩
abbrev main_v109 : Ref sig .tc := ⟨.hbm, 233, rfl⟩
abbrev main_cst_36 : Ref sig .tc := ⟨.hbm, 234, rfl⟩
abbrev main_v110 : Ref sig .tc := ⟨.hbm, 235, rfl⟩
abbrev main_cst_37 : Ref sig .tc := ⟨.hbm, 236, rfl⟩
abbrev main_v111 : Ref sig .tc := ⟨.hbm, 237, rfl⟩
abbrev main_v112 : Ref sig .tc := ⟨.hbm, 238, rfl⟩
abbrev main_cst_38 : Ref sig .tc := ⟨.hbm, 239, rfl⟩
abbrev main_v113 : Ref sig .tc := ⟨.hbm, 240, rfl⟩
abbrev main_v114 : Ref sig .tc := ⟨.hbm, 241, rfl⟩
abbrev main_cst_39 : Ref sig .tc := ⟨.hbm, 242, rfl⟩
abbrev main_v115 : Ref sig .tc := ⟨.hbm, 243, rfl⟩
abbrev main_v116 : Ref sig .tc := ⟨.hbm, 244, rfl⟩
abbrev main_v117 : Ref sig .tc := ⟨.hbm, 245, rfl⟩
abbrev main_call9_c : Ref sig .tc := ⟨.hbm, 246, rfl⟩
abbrev main_call9_v0 : Ref sig .tc := ⟨.hbm, 247, rfl⟩
abbrev main_call9_v1 : Ref sig .tc := ⟨.hbm, 248, rfl⟩
abbrev main_call9_c_0 : Ref sig .tc := ⟨.hbm, 249, rfl⟩
abbrev main_call9_v2 : Ref sig .tc := ⟨.hbm, 250, rfl⟩
abbrev main_call9_v3 : Ref sig .tc := ⟨.hbm, 251, rfl⟩
abbrev main_call9_v4 : Ref sig .tc := ⟨.hbm, 252, rfl⟩
abbrev main_call9_v5 : Ref sig .tc := ⟨.hbm, 253, rfl⟩
abbrev main_call9_c_1 : Ref sig .tc := ⟨.hbm, 254, rfl⟩
abbrev main_call9_c_2 : Ref sig .tc := ⟨.hbm, 255, rfl⟩
abbrev main_call9_v6 : Ref sig .tc := ⟨.hbm, 256, rfl⟩
abbrev main_call9_v7 : Ref sig .tc := ⟨.hbm, 257, rfl⟩
abbrev main_call9_v8 : Ref sig .tc := ⟨.hbm, 258, rfl⟩
abbrev main_call9_v9 : Ref sig .tc := ⟨.hbm, 259, rfl⟩
abbrev main_call9_v10 : Ref sig .tc := ⟨.hbm, 260, rfl⟩
abbrev main_call9_v11 : Ref sig .tc := ⟨.hbm, 261, rfl⟩
abbrev main_call9_c_3 : Ref sig .tc := ⟨.hbm, 262, rfl⟩
abbrev main_call9_v12 : Ref sig .tc := ⟨.hbm, 263, rfl⟩
abbrev main_call9_v13 : Ref sig .tc := ⟨.hbm, 264, rfl⟩
abbrev main_call9_v14 : Ref sig .tc := ⟨.hbm, 265, rfl⟩
abbrev main_call9_cst : Ref sig .tc := ⟨.hbm, 266, rfl⟩
abbrev main_call9_v15 : Ref sig .tc := ⟨.hbm, 267, rfl⟩
abbrev main_v118 : Ref sig .tc := ⟨.hbm, 268, rfl⟩
abbrev main_v119 : Ref sig .tc := ⟨.hbm, 269, rfl⟩
abbrev main_v120 : Ref sig .tc := ⟨.hbm, 270, rfl⟩
abbrev main_cst_40 : Ref sig .tc := ⟨.hbm, 271, rfl⟩
abbrev main_v121 : Ref sig .tc := ⟨.hbm, 272, rfl⟩
abbrev main_v122 : Ref sig .tc := ⟨.hbm, 273, rfl⟩
abbrev main_v123 : Ref sig .tc := ⟨.hbm, 274, rfl⟩

abbrev nD : Nat := 1
abbrev τ : Topo := Topo.v7x

variable {F : FTy → Type} [FloatOps F]
-- ==== Proof.Reals.lean ====
/- The real numbers behind the programs' values: how each operation of the idealized arithmetic acts on a real, the real
   numbers that the programs' literal words stand for, and the loss functions as real formulas. -/
module

public import Idealize.ShloMosaic.Lib.Pointwise
public import Idealize.ShloMosaic.Lib.IdealHost

@[expose] public section

noncomputable section

namespace Cert.Reals

open Idealize.ShloMosaic

/-! ## Operations on reals -/

theorem coe_sum {ι : Type} (s : Finset ι) (f : ι → ℝ) : ((∑ i ∈ s, f i : ℝ) : EReal) = ∑ i ∈ s, (f i : EReal) := by
  classical
  induction s using Finset.induction_on with
  | empty => rfl
  | insert a s ha ih => rw [Finset.sum_insert ha, Finset.sum_insert ha, EReal.coe_add, ih]

theorem coe_max (a b : ℝ) : ((max a b : ℝ) : EReal) = max (a : EReal) (b : EReal) := EReal.coe_strictMono.monotone.map_max

theorem sqrt_coe {r : ℝ} (h : 0 ≤ r) : Ideal.sqrt (r : EReal) = ((Real.sqrt r : ℝ) : EReal) := by
  have : ¬ r < 0 := not_lt.mpr h
  show (if r < 0 then (⊥ : EReal) else ((Real.sqrt r : ℝ) : EReal)) = _
  rw [if_neg this]

theorem div_coe {x y : ℝ} (h : y ≠ 0) : Ideal.div (x : EReal) (y : EReal) = ((x / y : ℝ) : EReal) := by
  rw [Ideal.div_coe h, ← EReal.coe_mul, mul_one_div]

theorem log_coe {r : ℝ} (h : 0 < r) : Ideal.log (r : EReal) = ((Real.log r : ℝ) : EReal) := by
  have : ¬ r ≤ 0 := not_le.mpr h
  show (if r ≤ 0 then (⊥ : EReal) else ((Real.log r : ℝ) : EReal)) = _
  rw [if_neg this]

theorem pow_one_coe (x : ℝ) : Ideal.pow (x : EReal) (1 : EReal) = (x : EReal) := by
  rw [← EReal.coe_one]
  show ((Real.rpow x 1 : ℝ) : EReal) = _
  rw [show Real.rpow x 1 = x from Real.rpow_one x]

/-! ## The literal words -/

theorem word_two : Ideal.ofBits .f32 0x40000000#32 = ((2 : ℝ) : EReal) := by
  simp [Ideal.ofBits, Ideal.ieee]; rw [← EReal.coe_mul]; norm_num
theorem word_rows : Ideal.ofBits .f32 0x46000000#32 = ((8192 : ℝ) : EReal) := by
  simp [Ideal.ofBits, Ideal.ieee]; rw [← EReal.coe_mul]; norm_num
theorem word_pairs : Ideal.ofBits .f32 0x49800000#32 = ((1048576 : ℝ) : EReal) := by
  simp [Ideal.ofBits, Ideal.ieee]; rw [← EReal.coe_mul]; norm_num
theorem word_steps : Ideal.ofBits .f32 0x49FF8000#32 = ((2093056 : ℝ) : EReal) := by
  simp [Ideal.ofBits, Ideal.ieee]; rw [← EReal.coe_mul]; norm_num
theorem word_times : Ideal.ofBits .f32 0x43FF8000#32 = ((511 : ℝ) : EReal) := by
  simp [Ideal.ofBits, Ideal.ieee]; rw [← EReal.coe_mul]; norm_num
theorem word_seqs : Ideal.ofBits .f32 0x41800000#32 = ((16 : ℝ) : EReal) := by
  simp [Ideal.ofBits, Ideal.ieee]; rw [← EReal.coe_mul]; norm_num
theorem word_moves : Ideal.ofBits .f32 0x45FF8000#32 = ((8176 : ℝ) : EReal) := by
  simp [Ideal.ofBits, Ideal.ieee]; rw [← EReal.coe_mul]; norm_num
theorem word_length : Ideal.ofBits .f32 0x44000000#32 = ((512 : ℝ) : EReal) := by
  simp [Ideal.ofBits, Ideal.ieee]; rw [← EReal.coe_mul]; norm_num
theorem word_decay : Ideal.ofBits .f32 0x3F666666#32 = ((15099494 / 16777216 : ℝ) : EReal) := by
  simp [Ideal.ofBits, Ideal.ieee]; rw [← EReal.coe_mul]; norm_num
theorem word_tenth : Ideal.ofBits .f32 0x3DCCCCCD#32 = ((13421773 / 134217728 : ℝ) : EReal) := by
  simp [Ideal.ofBits, Ideal.ieee]; rw [← EReal.coe_mul]; norm_num
theorem word_top : Ideal.ofBits .f32 0x7F800000#32 = ⊤ := by
  simp [Ideal.ofBits, Ideal.ieee]

/-! ## Distances, assignments and losses -/

/-- The squared distance of two vectors, cut off below at zero. -/
def gap (x y : Fin 256 → ℝ) : ℝ := max (((∑ k, x k * x k) + ∑ k, y k * y k) - 2 * ∑ k, x k * y k) 0

theorem gap_nonneg (x y : Fin 256 → ℝ) : 0 ≤ gap x y := le_max_right _ _

/-- The distance of two vectors. -/
def far (x y : Fin 256 → ℝ) : ℝ := Real.sqrt (gap x y)

theorem far_nonneg (x y : Fin 256 → ℝ) : 0 ≤ far x y := Real.sqrt_nonneg _

/-- The assignments of one sample: one over one plus the distance to each node, divided by their sum. -/
def share (d : Fin 1024 → ℝ) (j : Fin 1024) : ℝ := (1 / (1 + d j)) / ∑ l, 1 / (1 + d l)

theorem share_sum_pos {d : Fin 1024 → ℝ} (h : ∀ j, 0 ≤ d j) : 0 < ∑ l, 1 / (1 + d l) :=
  Finset.sum_pos (fun l _ => by have := h l; positivity) ⟨0, Finset.mem_univ _⟩

theorem share_pos {d : Fin 1024 → ℝ} (h : ∀ j, 0 ≤ d j) (j : Fin 1024) : 0 < share d j :=
  div_pos (by have := h j; positivity) (share_sum_pos h)

/-- `j` is the first place at which `f` is least. -/
def Least (f : Fin 1024 → ℝ) (j : Fin 1024) : Prop := (∀ l, f j ≤ f l) ∧ ∀ l, l < j → f j < f l

theorem Least.unique {f : Fin 1024 → ℝ} {i j : Fin 1024} (hi : Least f i) (hj : Least f j) : i = j := by
  rcases lt_trichotomy i j with h | h | h
  · exact absurd (hj.2 i h) (not_lt.mpr (hi.1 j))
  · exact h
  · exact absurd (hi.2 j h) (not_lt.mpr (hj.1 i))

/-- A function on finitely many places has a first least one. -/
theorem exists_least (f : Fin 1024 → ℝ) : ∃ j, Least f j := by
  classical
  obtain ⟨m, -, hm⟩ := Finset.exists_min_image Finset.univ f ⟨0, Finset.mem_univ _⟩
  have hne : (Finset.univ.filter fun j => ∀ l, f j ≤ f l).Nonempty := ⟨m, by simpa using fun l => hm l (Finset.mem_univ _)⟩
  refine ⟨_, (Finset.mem_filter.mp (Finset.min'_mem _ hne)).2, fun l hl => ?_⟩
  by_contra hc
  refine absurd (Finset.min'_le (Finset.univ.filter fun j => ∀ l, f j ≤ f l) l ?_) (not_le.mpr hl)
  simpa using fun l' => (not_lt.mp hc).trans ((Finset.mem_filter.mp (Finset.min'_mem _ hne)).2 l')

/-- The first place at which `f` is least. -/
def first (f : Fin 1024 → ℝ) : Fin 1024 := (exists_least f).choose

theorem first_least (f : Fin 1024 → ℝ) : Least f (first f) := (exists_least f).choose_spec

/-- The least of finitely many reals, begun at `⊤`, is the value at a place where they are least. -/
theorem fold_min_coe {f : Fin 1024 → ℝ} {j : Fin 1024} (h : ∀ l, f j ≤ f l) :
    (Finset.univ : Finset (Fin 1024)).fold min ⊤ (fun l => (f l : EReal)) = (f j : EReal) := by
  refine le_antisymm ?_ ?_
  · exact (Finset.fold_min_le _).mpr (.inr ⟨j, Finset.mem_univ _, le_rfl⟩)
  · exact Finset.le_fold_min _ |>.mpr ⟨le_top, fun l _ => EReal.coe_le_coe_iff.mpr (h l)⟩

/-! ## The divergence -/

/-- The divergence of the row's target from its assignments `q`, from the column masses `s`. -/
def klRow (q s : Fin 1024 → ℝ) : ℝ :=
  (∑ l, q l * q l / s l * (Real.log (q l) - Real.log (s l))) / (∑ l, q l * q l / s l) - Real.log (∑ l, q l * q l / s l)

/-- The target of the assignments `q`: each squared and divided by its column's mass, then divided by the row's sum. -/
def goal (q s : Fin 1024 → ℝ) (j : Fin 1024) : ℝ := q j * q j / s j / ∑ l, q l * q l / s l

theorem weight_pos {q s : Fin 1024 → ℝ} (hq : ∀ j, 0 < q j) (hs : ∀ j, 0 < s j) (j : Fin 1024) : 0 < q j * q j / s j :=
  div_pos (mul_pos (hq j) (hq j)) (hs j)

theorem weights_pos {q s : Fin 1024 → ℝ} (hq : ∀ j, 0 < q j) (hs : ∀ j, 0 < s j) : 0 < ∑ l, q l * q l / s l :=
  Finset.sum_pos (fun l _ => weight_pos hq hs l) ⟨0, Finset.mem_univ _⟩

theorem goal_pos {q s : Fin 1024 → ℝ} (hq : ∀ j, 0 < q j) (hs : ∀ j, 0 < s j) (j : Fin 1024) : 0 < goal q s j :=
  div_pos (weight_pos hq hs j) (weights_pos hq hs)

/-- The divergence of a row, as the sum over the nodes of the target times the difference of logarithms. -/
theorem klRow_eq {q s : Fin 1024 → ℝ} (hq : ∀ j, 0 < q j) (hs : ∀ j, 0 < s j) :
    ∑ l, goal q s l * (Real.log (goal q s l) - Real.log (q l)) = klRow q s := by
  have hr := weights_pos hq hs
  have hlog : ∀ l, Real.log (goal q s l) - Real.log (q l)
      = (Real.log (q l) - Real.log (s l)) - Real.log (∑ l, q l * q l / s l) := fun l => by
    unfold goal
    rw [Real.log_div (weight_pos hq hs l).ne' hr.ne', Real.log_div (mul_pos (hq l) (hq l)).ne' (hs l).ne',
      Real.log_mul (hq l).ne' (hq l).ne']
    ring
  simp only [hlog, mul_sub (goal q s _) (Real.log (q _) - Real.log (s _))]
  rw [Finset.sum_sub_distrib, ← Finset.sum_mul]
  have h1 : ∑ l, goal q s l = 1 := by
    simp only [goal, ← Finset.sum_div]; exact div_self hr.ne'
  rw [h1, one_mul, klRow, Finset.sum_div]
  congr 1
  exact Finset.sum_congr rfl fun l _ => by unfold goal; ring

/-! ## Steps on the grid of nodes -/

/-- How far apart two nodes are on the grid of 32 columns: the rows' distance plus the columns'. -/
def hop (a b : ℕ) : ℕ := (a / 32 - b / 32 + (b / 32 - a / 32)) + (a % 32 - b % 32 + (b % 32 - a % 32))

theorem hop_comm (a b : ℕ) : hop a b = hop b a := by unfold hop; omega

theorem hop_le {a b : ℕ} (ha : a < 1024) (hb : b < 1024) : hop a b ≤ 62 := by unfold hop; omega

/-- The machine's sum of 32-bit words standing for naturals stands for their sum. -/
theorem fold_addi {ι : Type} [Std.Commutative (IntOp.addi (w := 32))] [Std.Associative (IntOp.addi (w := 32))] (s : Finset ι) (g : ι → ℕ) :
    s.fold IntOp.addi 0#32 (fun i => BitVec.ofNat 32 (g i)) = BitVec.ofNat 32 (∑ i ∈ s, g i) := by
  classical
  induction s using Finset.induction_on with
  | empty => rfl
  | insert a s ha ih =>
    rw [Finset.fold_insert ha, Finset.sum_insert ha, ih, BitVec.ofNat_add]; rfl

/-- The distance of two small words standing for naturals. -/
theorem absi_sub : ∀ a b : Fin 32, IntOp.absi (IntOp.subi (BitVec.ofNat 32 a) (BitVec.ofNat 32 b))
    = BitVec.ofNat 32 (a.val - b.val + (b.val - a.val)) := by decide +kernel

/-- The step between two nodes from the words of their rows and columns. -/
theorem hop_word {a b : ℕ} (ha : a < 1024) (hb : b < 1024) :
    IntOp.addi (IntOp.absi (IntOp.subi (BitVec.ofNat 32 (a / 32)) (BitVec.ofNat 32 (b / 32))))
      (IntOp.absi (IntOp.subi (BitVec.ofNat 32 (a % 32)) (BitVec.ofNat 32 (b % 32)))) = BitVec.ofNat 32 (hop a b) := by
  have h1 := absi_sub ⟨a / 32, by omega⟩ ⟨b / 32, by omega⟩
  have h2 := absi_sub ⟨a % 32, by omega⟩ ⟨b % 32, by omega⟩
  dsimp only at h1 h2
  rw [h1, h2, hop]
  exact (BitVec.ofNat_add _ _).symm

/-- A word standing for a small natural, as an integer. -/
theorem toInt_nat {n : ℕ} (h : n < 2147483648) : (BitVec.ofNat 32 n).toInt = n := by
  rw [BitVec.toInt_ofNat']
  exact Int.bmod_eq_of_le (by omega) (by omega)

/-- A word standing for a small natural, as a real. -/
theorem sitofp_nat {n : ℕ} (h : n < 2147483648) :
    (FloatOps.sitofp FTy.f32 (BitVec.ofNat 32 n) : Ideal .f32) = ((n : ℝ) : EReal) := by
  show (((BitVec.ofNat 32 n).toInt : ℝ) : EReal) = _
  rw [toInt_nat h]; rfl

end Cert.Reals

end
-- ==== Proof.Spec.lean ====
/- The results as real numbers: functions of the samples `Z` (row 512 b + t is step t of sequence b), the nodes `Y` and the
   time weights `w`. -/
module

public import proofs.«01_k».proof.Proof.Reals

@[expose] public section

noncomputable section

namespace Cert.Spec

open Cert.Reals

/-- The row of a sequence's step. -/
def rowOf (b : Fin 16) (t : Fin 512) : Fin 8192 := ⟨b.val * 512 + t.val, by omega⟩

/-- The step of a row. -/
def stepOf (i : Fin 8192) : Fin 512 := ⟨i.val % 512, by omega⟩

theorem stepOf_rowOf (b : Fin 16) (t : Fin 512) : stepOf (rowOf b t) = t := Fin.ext (by simp only [stepOf, rowOf]; omega)

/-- A sum over the rows is a sum over the sequences of sums over the steps. -/
theorem sum_rows {M : Type} [AddCommMonoid M] (f : Fin 8192 → M) : ∑ i, f i = ∑ b : Fin 16, ∑ t : Fin 512, f (rowOf b t) := by
  rw [← Fintype.sum_prod_type' (f := fun b t => f (rowOf b t))]
  refine Fintype.sum_bijective (fun i : Fin 8192 => ((⟨i.val / 512, by omega⟩, stepOf i) : Fin 16 × Fin 512)) ⟨fun i j h => ?_, fun p => ⟨rowOf p.1 p.2, ?_⟩⟩ _ _ fun i => ?_
  · simp only [Prod.mk.injEq, Fin.ext_iff, stepOf] at h; exact Fin.ext (by omega)
  · ext <;> simp only [rowOf, stepOf] <;> omega
  · congr 1; exact Fin.ext (by simp only [rowOf, stepOf]; omega)

/-- The sum of the first `n + 1` of sixteen numbers. -/
def upto (f : Fin 16 → ℝ) (n : ℕ) : ℝ := ∑ b : Fin 16, if b.val ≤ n then f b else 0

theorem upto_zero (f : Fin 16 → ℝ) : upto f 0 = f 0 := by
  unfold upto
  rw [Finset.sum_eq_single (0 : Fin 16) (fun b _ hb => if_neg (by intro h; exact hb (Fin.ext (by simpa using h)))) (by simp)]
  simp

theorem upto_succ (f : Fin 16 → ℝ) {n : ℕ} (h : n + 1 < 16) : upto f (n + 1) = upto f n + f ⟨n + 1, h⟩ := by
  have e : ∀ b : Fin 16, (if b.val ≤ n + 1 then f b else 0) = (if b.val ≤ n then f b else 0) + if b = ⟨n + 1, h⟩ then f b else 0 := fun b => by
    by_cases h1 : b.val ≤ n
    · rw [if_pos h1, if_pos (by omega), if_neg (by intro hb; rw [hb] at h1; simp at h1), add_zero]
    · by_cases h2 : b.val = n + 1
      · rw [if_neg h1, if_pos (by omega), if_pos (Fin.ext h2), zero_add]
      · rw [if_neg h1, if_neg (by omega), if_neg (fun hb => h2 (by rw [hb])), zero_add]
  unfold upto
  simp only [e, Finset.sum_add_distrib, Finset.sum_ite_eq', Finset.mem_univ, if_true]

theorem upto_last (f : Fin 16 → ℝ) : upto f 15 = ∑ b, f b := by
  unfold upto; exact Finset.sum_congr rfl fun b _ => if_pos (by omega)

/-- What begins at the first number and adds the next at each further step is the sum of the first ones. -/
theorem upto_of_steps {N : ℕ} (hN : N = 16) (g : (n : ℕ) → n < N → EReal) (f : Fin 16 → ℝ) (h0 : ∀ h : 0 < N, g 0 h = (f 0 : EReal))
    (hs : ∀ n (h : n + 1 < N) (a : ℝ), g n (Nat.lt_of_succ_lt h) = (a : EReal) → g (n + 1) h = ((a + f ⟨n + 1, hN ▸ h⟩ : ℝ) : EReal)) :
    ∀ n (h : n < N), g n h = ((upto f n : ℝ) : EReal)
  | 0, h => by rw [h0 h, upto_zero]
  | n + 1, h => by rw [hs n h _ (upto_of_steps hN g f h0 hs n (Nat.lt_of_succ_lt h)), upto_succ f (hN ▸ h)]

section Results
variable (Z : Fin 8192 → Fin 256 → ℝ) (Y : Fin 1024 → Fin 256 → ℝ) (w : Fin 512 → ℝ)

/-- The distances of a row's weighted sample to the nodes. -/
def away (i : Fin 8192) (j : Fin 1024) : ℝ := far (fun k => Z i k * w (stepOf i)) (Y j)

/-- A row's assignments. -/
def assign (i : Fin 8192) : Fin 1024 → ℝ := share (away Z Y w i)

/-- The column masses: the sums of the squared assignments. -/
def mass (j : Fin 1024) : ℝ := ∑ i, assign Z Y w i j * assign Z Y w i j

/-- A row's nearest node. -/
def node (i : Fin 8192) : Fin 1024 := first (away Z Y w i)

/-- The divergence loss. -/
def klv : ℝ := (∑ i, klRow (assign Z Y w i) (mass Z Y w)) / 8192

/-- The diversity loss. -/
def divv : ℝ := (0 - ∑ i, ∑ j, far (Y i) (Y j)) / 1048576

/-- A sequence's sum of squared steps. -/
def stepSum (b : Fin 16) : ℝ := ∑ t : Fin 511, ∑ k, (Z (rowOf b ⟨1 + t.val, by omega⟩) k - Z (rowOf b ⟨t.val, by omega⟩) k)
  * (Z (rowOf b ⟨1 + t.val, by omega⟩) k - Z (rowOf b ⟨t.val, by omega⟩) k)

/-- The time-smoothness loss. -/
def smoothv : ℝ := ∑ b, stepSum Z b * (7549747 / 17557826306048)

/-- A sequence's sum of steps on the grid. -/
def hopSum (b : Fin 16) : ℕ := ∑ t : Fin 511, hop (node Z Y w (rowOf b ⟨1 + t.val, by omega⟩)) (node Z Y w (rowOf b ⟨t.val, by omega⟩))

/-- The neighbourhood loss. -/
def nearv : ℝ := (∑ b, (hopSum Z Y w b : ℝ)) / 8176

/-- The samples moved a tenth of the way towards their nodes. -/
def movedv (i : Fin 8192) (k : Fin 256) : ℝ := Z i k + 13421773 / 134217728 * (Y (node Z Y w i) k - Z i k)

theorem away_nonneg (i j) : 0 ≤ away Z Y w i j := far_nonneg _ _

theorem assign_pos (i j) : 0 < assign Z Y w i j := share_pos (away_nonneg Z Y w i) j

theorem mass_pos (j) : 0 < mass Z Y w j :=
  Finset.sum_pos (fun i _ => mul_pos (assign_pos Z Y w i j) (assign_pos Z Y w i j)) ⟨0, Finset.mem_univ _⟩

end Results

end Cert.Spec

end
-- ==== Proof.Inputs.lean ====
/- The two arguments over the reals, and the results as arrays. -/
module

public import proofs.«01_k».proof.Proof.Spec

@[expose] public section

noncomputable section

namespace Cert.Spec

open Cert.Reals Idealize.ShloMosaic

/-- The node in a row and a column of the grid. -/
def cellOf (r c : Fin 32) : Fin 1024 := ⟨r.val * 32 + c.val, by omega⟩

theorem rowOf_parts (i : Fin 8192) : rowOf ⟨i.val / 512, by omega⟩ ⟨i.val % 512, by omega⟩ = i := Fin.ext (by simp only [rowOf]; omega)

theorem cellOf_parts (i : Fin 1024) : cellOf ⟨i.val / 32, by omega⟩ ⟨i.val % 32, by omega⟩ = i := Fin.ext (by simp only [cellOf]; omega)

/-- The arguments hold the real samples `Z` and nodes `Y`. -/
structure Given (z : FVec Ideal ⟨3, ![16, 512, 256]⟩ .f32) (n : FVec Ideal ⟨3, ![32, 32, 256]⟩ .f32) (Z : Fin 8192 → Fin 256 → ℝ)
    (Y : Fin 1024 → Fin 256 → ℝ) : Prop where
  z : ∀ b t k, z (ix3 b t k) = (Z (rowOf b t) k : EReal)
  n : ∀ r c k, n (ix3 r c k) = (Y (cellOf r c) k : EReal)

/-- The decay weight of a time step: 0.9, as the nearest 32-bit number, to the number of steps that follow. -/
def decay (t : Fin 512) : ℝ := Real.rpow (15099494 / 16777216) (512 - (t.val : ℝ) - 1)

theorem decay_word (t : Fin 512) : Ideal.pow (Ideal.ofBits .f32 0x3F666666#32)
    (Ideal.ofBits .f32 0x44000000#32 - (FloatOps.sitofp FTy.f32 (BitVec.ofNat 32 t.val) : Ideal .f32) - 1) = (decay t : EReal) := by
  rw [word_decay, word_length, show (FloatOps.sitofp FTy.f32 (BitVec.ofNat 32 t.val) : Ideal .f32) = ((t.val : ℝ) : EReal) from
    sitofp_nat (by omega), ← EReal.coe_one, ← EReal.coe_sub, ← EReal.coe_sub]
  rfl

section Arrays
variable (Z : Fin 8192 → Fin 256 → ℝ) (Y : Fin 1024 → Fin 256 → ℝ)

/-- The moved samples. -/
def somArr : FVec Ideal ⟨3, ![16, 512, 256]⟩ .f32 := fun j => (movedv Z Y decay (rowOf (j 0) (j 1)) (j 2) : EReal)
/-- The assignments. -/
def qArr : FVec Ideal ⟨2, ![8192, 1024]⟩ .f32 := fun j => (assign Z Y decay (j 0) (j 1) : EReal)
/-- The nearest nodes. -/
def bmuArr : IVec ⟨2, ![16, 512]⟩ 32 := fun j => BitVec.ofNat 32 (node Z Y decay (rowOf (j 0) (j 1)))
/-- A number as an array without axes. -/
def scalar (r : EReal) : FVec Ideal ⟨0, ![]⟩ .f32 := fun _ => r
/-- The total loss. -/
def totalv : EReal :=
  (((klv Z Y decay : EReal) + Ideal.ofBits .f32 0x3F000000#32 * (divv Y : EReal)) + Ideal.ofBits .f32 0x3E99999A#32 * (smoothv Z : EReal))
    + Ideal.ofBits .f32 0x3E4CCCCD#32 * (nearv Z Y decay : EReal)

end Arrays

end Cert.Spec

end
-- ==== Proof.Finite.lean ====
/- The precondition: where it holds, the two arguments hold real numbers. -/
module

public import proofs.«01_k».proof.Pre_finite
public import proofs.«01_k».proof.Proof.Inputs
public import Idealize.ShloMosaic.Lib.ReduceAll

@[expose] public section

noncomputable section

namespace Cert.Finite

open Cert.Pre_finite Cert.Reals Cert.Spec Idealize.ShloMosaic

/-- The shape relations that the precondition's operations take. -/
theorem facts : Cert.Pre_finite.Facts where
  bcast_S_S16x512x256 := by decide
  reducesTo_S16x512x256_S_d0_1_2 := by decide
  h_S_ := by decide
  bcast_S_S32x32x256 := by decide
  reducesTo_S32x32x256_S_d0_1_2 := by decide

/-- A number whose absolute value lies below `⊤` is real. -/
theorem real_of_abs {x : Ideal .f32} (h : FloatOps.cmpf .olt (FloatOps.absf x) (Ideal.ofBits .f32 0x7F800000#32) = 1#1) :
    ((EReal.toReal x : ℝ) : EReal) = x := by
  rw [word_top, Ideal.cmpf_def, Ideal.absf_def, Ideal.cmp] at h
  have h' : max x (-x) < (⊤ : EReal) := by
    by_contra hn
    rw [decide_eq_false hn] at h
    exact absurd h (by decide)
  refine EReal.coe_toReal (fun e => ?_) (fun e => ?_)
  · rw [e] at h'; exact absurd ((le_max_left _ _).trans_lt h') (lt_irrefl _)
  · rw [e, EReal.neg_bot] at h'; exact absurd ((le_max_right _ _).trans_lt h') (lt_irrefl _)

theorem and_one {a b : BitVec 1} (h : IntOp.andi a b = 1#1) : a = 1#1 ∧ b = 1#1 := by revert a b; decide

instance : Subsingleton S_.Idx := ⟨fun a b => funext fun i => i.elim0⟩

/-- Arguments that are finite everywhere hold real samples and nodes. -/
theorem given (hf : Cert.Pre_finite.Facts) (z : FVec Ideal S16x512x256 .f32) (n : FVec Ideal S32x32x256 .f32)
    (h : Cert.Pre_finite.fn (F := Ideal) z n = fun _ => 1#1) : ∃ Z Y, Given z n Z Y := by
  obtain ⟨h1, h2⟩ := and_one (congrFun h (fun i => i.elim0))
  have hz : ∀ i, ((EReal.toReal (z i) : ℝ) : EReal) = z i := fun i => real_of_abs (Host.reduce_andi_all _ _ _ _ _ h1 i)
  have hn : ∀ i, ((EReal.toReal (n i) : ℝ) : EReal) = n i := fun i => real_of_abs (Host.reduce_andi_all _ _ _ _ _ h2 i)
  refine ⟨fun i k => EReal.toReal (z (ix3 ⟨i.val / 512, by omega⟩ ⟨i.val % 512, by omega⟩ k)),
    fun i k => EReal.toReal (n (ix3 ⟨i.val / 32, by omega⟩ ⟨i.val % 32, by omega⟩ k)), fun b t k => ?_, fun r c k => ?_⟩
  · rw [hz]
    exact congrArg z (congrArg₂ (fun b t => ix3 b t k) (Fin.ext (by simp only [rowOf]; omega)) (Fin.ext (by simp only [rowOf]; omega)))
  · rw [hn]
    exact congrArg n (congrArg₂ (fun b t => ix3 b t k) (Fin.ext (by simp only [cellOf]; omega)) (Fin.ext (by simp only [cellOf]; omega)))

end Cert.Finite

end
-- ==== Proof.KPay.lean ====
/- What the two calls' bodies compute from real inputs, one operation chain at a time. -/
module

public import proofs.«01_k».proof.Proof.Reals
public import proofs.«01_k».proof.Proof.Gen.KernelIdeal.Skeleton

@[expose] public section

set_option maxRecDepth 16384

noncomputable section

namespace Cert.KernelIdeal.Pay

open Cert.KernelIdeal Cert.KernelIdeal.Gen Cert.Reals Idealize.ShloMosaic Idealize.ShloMosaic.TcCoe Idealize.SL.Sem

/-- The distances of a block of samples, each weighted by its time step, to the nodes. -/
theorem dist_pay {v0 : Vec Ideal S512x256 .f32} {v2 : Vec Ideal S1024x256 .f32} {v7 : Vec Ideal S512x1 .f32} {v14 : Vec Ideal S1x1024 .f32}
    {x : Fin 512 → Fin 256 → ℝ} {y : Fin 1024 → Fin 256 → ℝ} {w : Fin 512 → ℝ}
    (h0 : ∀ t k, v0 (ix2 t k) = (x t k : EReal)) (h2 : ∀ j k, v2 (ix2 j k) = (y j k : EReal)) (h7 : ∀ t, v7 (ix2 t 0) = (w t : EReal))
    (h14 : ∀ j, v14 (ix2 0 j) = ((∑ k, y j k * y j k : ℝ) : EReal)) (t : Fin 512) (j : Fin 1024) :
    k0_pay7 (F := Ideal) v0 v2 v7 v14 (ix2 t j) = ((far (fun k => x t k * w t) (y j) : ℝ) : EReal) := by
  pointwise [k0_pay7, k0_pay2, k0_pay3]
  simp only [h0, h2, h7, h14, word_two, ← EReal.coe_mul, ← coe_sum, ← EReal.coe_add, ← EReal.coe_sub, ← EReal.coe_zero, ← coe_max]
  exact sqrt_coe (gap_nonneg (fun k => x t k * w t) (y j))

/-- The assignments of a block of samples. -/
theorem share_pay {v0 : Vec Ideal S512x256 .f32} {v2 : Vec Ideal S1024x256 .f32} {v7 : Vec Ideal S512x1 .f32} {v14 : Vec Ideal S1x1024 .f32}
    {d : Fin 512 → Fin 1024 → ℝ} (hd : ∀ t j, k0_pay7 (F := Ideal) v0 v2 v7 v14 (ix2 t j) = (d t j : EReal)) (h : ∀ t j, 0 ≤ d t j)
    (t : Fin 512) (j : Fin 1024) : k0_pay8 (F := Ideal) v0 v2 v7 v14 (ix2 t j) = ((share (d t) j : ℝ) : EReal) := by
  have e : ∀ l, Ideal.div 1 (1 + (d t l : EReal)) = ((1 / (1 + d t l) : ℝ) : EReal) := fun l => by
    have := h t l
    rw [← EReal.coe_one, ← EReal.coe_add, div_coe (by positivity)]
  pointwise [k0_pay8]
  simp only [hd, e, ← coe_sum]
  rw [← EReal.coe_one, div_coe (share_sum_pos (h t)).ne', ← EReal.coe_mul, mul_one_div]
  rfl

/-- The column masses after a block: its squared assignments added to the masses before. -/
theorem mass_pay {u : Vec Ideal S512x1024 .f32} {acc : Vec Ideal S1x1024 .f32} {q : Fin 512 → Fin 1024 → ℝ} {a : ℝ}
    (hu : ∀ t j, u (ix2 t j) = (q t j : EReal)) (j : Fin 1024) (ha : acc (ix2 0 j) = (a : EReal)) :
    k0_pay9 (F := Ideal) u acc (ix2 0 j) = ((a + ∑ t, q t j * q t j : ℝ) : EReal) := by
  pointwise [k0_pay9]
  simp only [hu, ha, ← EReal.coe_mul, ← coe_sum, ← EReal.coe_add]

/-- The least of words, each a place where a condition holds or 1024 where it fails, is the first such place. -/
theorem fold_minsi {P : Fin 1024 → Prop} [DecidablePred P] [Std.Commutative (IntOp.minsi (w := 32))] [Std.Associative (IntOp.minsi (w := 32))]
    {j : Fin 1024} (hj : P j) (hlt : ∀ l, l < j → ¬ P l) :
    (Finset.univ : Finset (Fin 1024)).fold IntOp.minsi 2147483647#32 (fun l => if P l then BitVec.ofNat 32 l else 1024#32)
      = BitVec.ofNat 32 j := by
  have key : ∀ s : Finset (Fin 1024), ∃ n : ℕ, s.fold IntOp.minsi 2147483647#32 (fun l => if P l then BitVec.ofNat 32 l else 1024#32)
      = BitVec.ofNat 32 n ∧ j.val ≤ n ∧ n ≤ 2147483647 ∧ (j ∈ s → n = j) := by
    classical
    intro s
    induction s using Finset.induction_on with
    | empty => exact ⟨2147483647, rfl, by omega, le_rfl, fun h => absurd h (Finset.notMem_empty _)⟩
    | insert a s ha ih =>
      obtain ⟨n, hn, h1, h2, h3⟩ := ih
      rw [Finset.fold_insert ha, hn]
      have hslt : ∀ x y : ℕ, x ≤ 2147483647 → y ≤ 2147483647 → (BitVec.ofNat 32 x).slt (BitVec.ofNat 32 y) = decide (x < y) := fun x y hx hy => by
        rw [BitVec.slt, toInt_nat (by omega), toInt_nat (by omega), decide_eq_decide]; omega
      obtain ⟨m, hm, h4, h5, h6⟩ : ∃ m : ℕ, (if P a then BitVec.ofNat 32 a else 1024#32) = BitVec.ofNat 32 m ∧ j.val ≤ m ∧ m ≤ 2147483647
          ∧ (j = a → m = j) := by
        by_cases hP : P a
        · refine ⟨a, if_pos hP, ?_, by omega, fun h => by rw [h]⟩
          by_contra hc
          exact hlt a (by omega) hP
        · refine ⟨1024, if_neg hP, by omega, by omega, fun h => absurd (h ▸ hj) hP⟩
      rw [hm]
      refine ⟨if m < n then m else n, ?_, by split <;> assumption, by split <;> assumption, fun h => ?_⟩
      · simp only [IntOp.minsi, hslt _ _ h5 h2, decide_eq_true_eq]; split <;> rfl
      · rcases Finset.mem_insert.mp h with h | h
        · have := h6 h; split <;> omega
        · have := h3 h; split <;> omega
  obtain ⟨n, hn, -, -, h⟩ := key Finset.univ
  rw [hn, h (Finset.mem_univ _)]

/-- The nearest node of each sample of a block: the first place of its least distance. -/
theorem best_pay {u : Vec Ideal S512x1024 .f32} {d : Fin 512 → Fin 1024 → ℝ}
    (hu : ∀ t j, u (ix2 t j) = (d t j : EReal)) (t : Fin 512) :
    k0_pay10 (F := Ideal) u (ix2 t 0) = BitVec.ofNat 32 (first (d t)) := by
  have hj := first_least (d t)
  pointwise [k0_pay10]
  simp only [hu, word_top, fold_min_coe hj.1, EReal.coe_eq_coe_iff]
  exact fold_minsi rfl fun l hl => (hj.2 l hl).ne'

/-- A row of zeros with a one at place `j` picks out the value at `j`. -/
theorem pick (f : Fin 1024 → EReal) (j : Fin 1024) :
    ∑ l : Fin 1024, (FloatOps.sitofp FTy.f32 (BitVec.setWidth 32 (IntOp.cmpi CmpIPredicate.eq (BitVec.ofNat 32 l.val) (BitVec.ofNat 32 j.val))) : Ideal .f32) * f l
      = f j := by
  have e : ∀ l : Fin 1024, (FloatOps.sitofp FTy.f32 (BitVec.setWidth 32 (IntOp.cmpi CmpIPredicate.eq (BitVec.ofNat 32 l.val) (BitVec.ofNat 32 j.val))) : Ideal .f32)
      = if l = j then (1 : EReal) else 0 := fun l => by
    have h : (BitVec.ofNat 32 l.val == BitVec.ofNat 32 j.val) = decide (l = j) := by
      rw [Bool.beq_eq_decide_eq, decide_eq_decide]
      refine ⟨fun h => Fin.ext ?_, fun h => by rw [h]⟩
      have := congrArg BitVec.toNat h
      rw [BitVec.toNat_ofNat, BitVec.toNat_ofNat] at this; omega
    simp only [IntOp.cmpi, h]
    by_cases hl : l = j
    · simp only [hl, decide_true, if_true]
      exact (sitofp_nat (n := 1) (by omega)).trans (by norm_num)
    · simp only [hl, decide_false, if_false]
      exact (sitofp_nat (n := 0) (by omega)).trans (by norm_num)
  simp only [e, ite_mul, one_mul, zero_mul, Finset.sum_ite_eq', Finset.mem_univ, if_true]

/-- The samples of a block moved a tenth of the way towards their nodes, each node given as three addends. -/
theorem moved_pay {x : FVec Ideal S512x256 .f32} {u : Vec Ideal S512x1024 .f32} {hi lo lo2 : Vec Ideal S1024x256 .bf16}
    {b : Fin 512 → Fin 1024} (hb : ∀ t, k0_pay10 (F := Ideal) u (ix2 t 0) = BitVec.ofNat 32 (b t)) (t : Fin 512) (k : Fin 256) :
    k0_pay11 (F := Ideal) x u hi lo lo2 (ix2 t k) = x (ix2 t k) + ((13421773 / 134217728 : ℝ) : EReal)
      * (hi (ix2 (b t) k) + lo (ix2 (b t) k) + lo2 (ix2 (b t) k) - x (ix2 t k)) := by
  pointwise [k0_pay11]
  simp only [hb, word_tenth]
  rw [pick (fun l => hi (ix2 l k)), pick (fun l => lo (ix2 l k)), pick (fun l => lo2 (ix2 l k))]

/-- The time-smoothness loss after a block: the sum of its squared steps, scaled, added to the loss before. -/
theorem smooth_pay {x : FVec Ideal S512x256 .f32} {acc : Vec Ideal S1x1 .f32} {z : Fin 512 → Fin 256 → ℝ} {a : ℝ}
    (hx : ∀ t k, x (ix2 t k) = (z t k : EReal)) (ha : acc (ix2 0 0) = (a : EReal)) :
    k0_pay12 (F := Ideal) x acc (ix2 0 0) = ((a + (∑ t : Fin 511, ∑ k, (z ⟨1 + t.val, by omega⟩ k - z ⟨t.val, by omega⟩ k)
      * (z ⟨1 + t.val, by omega⟩ k - z ⟨t.val, by omega⟩ k)) * (7549747 / 17557826306048) : ℝ) : EReal) := by
  have hn : Named.named (F := Ideal) Cert.KernelIdeal.κ "smooth_scale" (φ := .f32) 887544275#32 = ((7549747 / 17557826306048 : ℝ) : EReal) := rfl
  pointwise [k0_pay12]
  simp only [hx, ha, hn, ← EReal.coe_sub, ← EReal.coe_mul, ← coe_sum, ← EReal.coe_add]

/-- The grid row of a node's word. -/
theorem row_word : ∀ a : Fin 1024, Scalar.select
      (IntOp.andi
        (IntOp.cmpi CmpIPredicate.ne
          (IntOp.subi (BitVec.setWidth 32 (IntOp.cmpi CmpIPredicate.sgt (BitVec.ofNat 32 a.val) 0#32))
            (BitVec.setWidth 32 (IntOp.cmpi CmpIPredicate.slt (BitVec.ofNat 32 a.val) 0#32)))
          (Scalar.subi (Scalar.extui (Scalar.cmpi CmpIPredicate.sgt 32#32 0#32))
            (Scalar.extui (Scalar.cmpi CmpIPredicate.slt 32#32 0#32))))
        (IntOp.cmpi CmpIPredicate.ne (IntOp.remsi ArithUnit.vector (BitVec.ofNat 32 a.val) 32#32) 0#32))
      (IntOp.subi (IntOp.divsi ArithUnit.vector (BitVec.ofNat 32 a.val) 32#32) 1#32)
      (IntOp.divsi ArithUnit.vector (BitVec.ofNat 32 a.val) 32#32) = BitVec.ofNat 32 (a.val / 32) := by decide +kernel

/-- The grid column of a node's word. -/
theorem col_word : ∀ a : Fin 1024, Scalar.select
      (IntOp.andi
        (IntOp.xori
          (IntOp.cmpi CmpIPredicate.slt
            (IntOp.remsi ArithUnit.vector (BitVec.ofNat 32 a.val)
              (Scalar.select (Scalar.cmpi CmpIPredicate.eq 32#32 0#32) 1#32 32#32)) 0#32)
          (Scalar.cmpi CmpIPredicate.slt (Scalar.select (Scalar.cmpi CmpIPredicate.eq 32#32 0#32) 1#32 32#32) 0#32))
        (IntOp.cmpi CmpIPredicate.ne
          (IntOp.remsi ArithUnit.vector (BitVec.ofNat 32 a.val)
            (Scalar.select (Scalar.cmpi CmpIPredicate.eq 32#32 0#32) 1#32 32#32)) 0#32))
      (IntOp.addi
        (IntOp.remsi ArithUnit.vector (BitVec.ofNat 32 a.val)
          (Scalar.select (Scalar.cmpi CmpIPredicate.eq 32#32 0#32) 1#32 32#32))
        (Scalar.select (Scalar.cmpi CmpIPredicate.eq 32#32 0#32) 1#32 32#32))
      (IntOp.remsi ArithUnit.vector (BitVec.ofNat 32 a.val)
        (Scalar.select (Scalar.cmpi CmpIPredicate.eq 32#32 0#32) 1#32 32#32)) = BitVec.ofNat 32 (a.val % 32) := by decide +kernel

/-- The grid rows of a block's nearest nodes. -/
theorem row_pay {u : IVec S512x1 32} {b : Fin 512 → Fin 1024} (hu : ∀ t, u (ix2 t 0) = BitVec.ofNat 32 (b t)) (t : Fin 512) :
    k0_pay13 u (ix2 t 0) = BitVec.ofNat 32 ((b t).val / 32) := by
  pointwise [k0_pay13]
  simp only [hu]
  exact row_word (b t)

/-- The neighbourhood loss after a block: the steps between its consecutive nearest nodes added to the loss before. -/
theorem near_pay {u r : IVec S512x1 32} {acc : Vec Ideal S1x1 .f32} {b : Fin 512 → Fin 1024} {a : ℝ}
    (hu : ∀ t, u (ix2 t 0) = BitVec.ofNat 32 (b t)) (hr : ∀ t, r (ix2 t 0) = BitVec.ofNat 32 ((b t).val / 32)) (ha : acc (ix2 0 0) = (a : EReal)) :
    k0_pay1 (F := Ideal) u r 32#32 (Scalar.cmpi .eq 32#32 0#32) 1#32 acc (ix2 0 0)
      = ((a + (∑ t : Fin 511, hop (b ⟨1 + t.val, by omega⟩) (b ⟨t.val, by omega⟩) : ℕ) : ℝ) : EReal) := by
  pointwise [k0_pay1]
  simp only [hu, hr, ha, col_word, hop_word (Fin.is_lt _) (Fin.is_lt _)]
  have hsum : ∑ x : Fin 511 × Fin 1, hop (b ⟨1 + x.1.val, by omega⟩) (b ⟨x.1.val, by omega⟩)
      = ∑ t : Fin 511, hop (b ⟨1 + t.val, by omega⟩) (b ⟨t.val, by omega⟩) := by
    rw [Fintype.sum_prod_type]
    exact Finset.sum_congr rfl fun x _ => by rw [Finset.univ_unique, Finset.sum_singleton]
  have hle : ∑ t : Fin 511, hop (b ⟨1 + t.val, by omega⟩) (b ⟨t.val, by omega⟩) ≤ 511 * 62 := by
    refine (Finset.sum_le_card_nsmul _ _ 62 fun t _ => hop_le (Fin.is_lt _) (Fin.is_lt _)).trans (by simp)
  rw [fold_addi, hsum, sitofp_nat (by omega), ← EReal.coe_add]

/-- The diversity loss: minus the mean distance of the nodes to one another. -/
theorem div_pay {v2 : Vec Ideal S1024x256 .f32} {v14 : Vec Ideal S1x1024 .f32} {y : Fin 1024 → Fin 256 → ℝ}
    (h2 : ∀ j k, v2 (ix2 j k) = (y j k : EReal)) (h14 : ∀ j, v14 (ix2 0 j) = ((∑ k, y j k * y j k : ℝ) : EReal)) :
    k0_pay6 (F := Ideal) v2 v14 (ix2 0 0) = (((0 - ∑ i, ∑ j, far (y i) (y j)) / 1048576 : ℝ) : EReal) := by
  pointwise [k0_pay6, k0_pay3]
  have e : ∀ i j, Ideal.sqrt (((gap (y i) (y j) : ℝ) : EReal)) = ((far (y i) (y j) : ℝ) : EReal) := fun i j => sqrt_coe (gap_nonneg _ _)
  simp only [gap] at e
  simp only [h2, h14, word_two, word_pairs, ← EReal.coe_mul, ← coe_sum, ← EReal.coe_add, ← EReal.coe_sub, ← EReal.coe_zero, ← coe_max, e]
  exact div_coe (by norm_num)

/-- The divergence after a block: its rows' divergences added to the sum before. -/
theorem kl_pay {u : Vec Ideal S512x1024 .f32} {v : Vec Ideal S1x1024 .f32} {acc : Vec Ideal S1x1 .f32} {q : Fin 512 → Fin 1024 → ℝ}
    {s : Fin 1024 → ℝ} {a : ℝ} (hu : ∀ t j, u (ix2 t j) = (q t j : EReal)) (hv : ∀ j, v (ix2 0 j) = (s j : EReal))
    (ha : acc (ix2 0 0) = (a : EReal)) (hq : ∀ t j, 0 < q t j) (hs : ∀ j, 0 < s j) :
    k1_pay2 (F := Ideal) u v acc (ix2 0 0) = ((a + ∑ t, klRow (q t) s : ℝ) : EReal) := by
  have e1 : ∀ t j, Ideal.div ((q t j * q t j : ℝ) : EReal) (s j : EReal) = ((q t j * q t j / s j : ℝ) : EReal) := fun t j =>
    div_coe (hs j).ne'
  have e2 : ∀ t j, Ideal.log (q t j : EReal) = ((Real.log (q t j) : ℝ) : EReal) := fun t j => log_coe (hq t j)
  have e3 : ∀ j, Ideal.log (s j : EReal) = ((Real.log (s j) : ℝ) : EReal) := fun j => log_coe (hs j)
  have e4 : ∀ t, Ideal.log ((∑ l, q t l * q t l / s l : ℝ) : EReal) = ((Real.log (∑ l, q t l * q t l / s l) : ℝ) : EReal) :=
    fun t => log_coe (weights_pos (hq t) hs)
  have e5 : ∀ t (w : ℝ), Ideal.div (w : EReal) ((∑ l, q t l * q t l / s l : ℝ) : EReal) = ((w / (∑ l, q t l * q t l / s l) : ℝ) : EReal) :=
    fun t w => div_coe (weights_pos (hq t) hs).ne'
  pointwise [k1_pay2]
  simp only [hu, hv, ha, e1, e2, e3, ← EReal.coe_sub, ← EReal.coe_mul, ← coe_sum, e4, e5, ← EReal.coe_add]
  simp only [Finset.univ_unique, Finset.sum_singleton]
  rfl

/-- The mean divergence: the sum divided by the number of samples. -/
theorem mean_pay {acc : Vec Ideal S1x1 .f32} {a : ℝ} (ha : acc (ix2 0 0) = (a : EReal)) :
    k1_pay3 (F := Ideal) acc (ix2 0 0) = ((a / 8192 : ℝ) : EReal) := by
  pointwise [k1_pay3]
  rw [ha, word_rows, div_coe (by norm_num)]

end Cert.KernelIdeal.Pay

end
-- ==== Proof.Arr0.lean ====
/- What a grid point of the first call computes from real inputs: assignments, moved samples and nearest nodes of its block. -/
module

public import proofs.«01_k».proof.Proof.Spec
public import proofs.«01_k».proof.Proof.KPay
public import proofs.«01_k».proof.Proof.Gen.KernelIdeal.Frame
public import Idealize.ShloMosaic.Lib.Pipeline.ValueKit

@[expose] public section

set_option maxRecDepth 16384

noncomputable section

namespace Cert.KernelIdeal.Arr

open Cert.KernelIdeal Cert.KernelIdeal.Gen Cert.KernelIdeal.Pay Cert.Reals Cert.Spec Idealize.ShloMosaic Idealize.ShloMosaic.TcCoe Idealize.SL.Sem

/-! ## Reading a buffer stored piece by piece -/

/-- Under the newest store a buffer holds what was stored. -/
theorem canon_hit {S : Shape} {e : EltTy} {Val : EltTy → Type} [∀ e, Nonempty (Val e)] {off size : Fin S.rank → ℕ} (inb : ∀ a, off a + size a ≤ S.size a)
    (w : (Rect.unit off size inb).shape.Idx → Val e) (L : List (View.Piece Val S e)) (y : S.Idx) (x : (Rect.unit off size inb).shape.Idx)
    (hx : ∀ a, (y a).val = off a + (x a).val) : View.canon ((⟨Rect.unit off size inb, w⟩ : View.Piece Val S e) :: L) y = w x := by
  have hy : (Rect.unit off size inb).emb x = y := funext fun a => Fin.ext (by
    show off a + 1 * (x a).val = (y a).val
    rw [hx a, Nat.one_mul])
  rw [← hy]; exact View.canon_cons_emb _ w L x

/-- Off the newest store a buffer holds what the earlier ones left. -/
theorem canon_miss {S : Shape} {e : EltTy} {Val : EltTy → Type} [∀ e, Nonempty (Val e)] {off size : Fin S.rank → ℕ} (inb : ∀ a, off a + size a ≤ S.size a)
    (w : (Rect.unit off size inb).shape.Idx → Val e) (L : List (View.Piece Val S e)) (y : S.Idx) (a : Fin S.rank)
    (ha : (y a).val < off a ∨ off a + size a ≤ (y a).val) :
    View.canon ((⟨Rect.unit off size inb, w⟩ : View.Piece Val S e) :: L) y = View.canon L y := by
  refine View.canon_cons_of_not_mem _ L fun h => ?_
  have := (Rect.mem_set_unit (inb := inb)).mp h a
  omega

variable (V : (c : Dev nD) → (b : Ref sig .tc) → Buf (Elt Ideal) ((c : Thread nD τ).loc b)) (c : Dev nD)

/-- The number of a grid point of the first call. -/
def pt (t : Fin cfg0.N) : Fin 16 := ⟨t.val, lt_of_lt_of_eq t.isLt N_0⟩

theorem idx0 : ∀ t : Fin cfg0.N, win0_0.index t = ![t.val, 0] ∧ win0_1.index t = ![0, 0] ∧ win0_2.index t = ![0, 0] ∧ win0_3.index t = ![0, 0]
    ∧ win0_4.index t = ![0, 0] ∧ win0_5.index t = ![0, 0] ∧ win0_6.index t = ![0, 0] ∧ win0_7.index t = ![t.val, 0] ∧ win0_8.index t = ![t.val, 0]
    ∧ win0_9.index t = ![t.val, 0] ∧ win0_10.index t = ![0, 0] ∧ win0_11.index t = ![0, 0] :=
  (by decide +kernel : ∀ t : Fin grid0.N, _)

/-- What the first call's input arrays hold, over the reals. -/
structure In (Z : Fin 8192 → Fin 256 → ℝ) (Y : Fin 1024 → Fin 256 → ℝ) (w : Fin 512 → ℝ) : Prop where
  z : ∀ i k, (show FVec Ideal S8192x256 .f32 from V c main_v0) (ix2 i k) = (Z i k : EReal)
  y : ∀ j k, (show FVec Ideal S1024x256 .f32 from V c main_v1) (ix2 j k) = (Y j k : EReal)
  split : ∀ j k, (show FVec Ideal S1024x256 .bf16 from V c main_v13) (ix2 j k) + (show FVec Ideal S1024x256 .bf16 from V c main_v16) (ix2 j k)
    + (show FVec Ideal S1024x256 .bf16 from V c main_v19) (ix2 j k) = (Y j k : EReal)
  w : ∀ t, (show FVec Ideal S512x1 .f32 from V c main_v9) (ix2 t 0) = (w t : EReal)
  sq : ∀ j, (show FVec Ideal S1x1024 .f32 from V c main_v12) (ix2 0 j) = ((∑ k, Y j k * Y j k : ℝ) : EReal)

variable {V c} {Z : Fin 8192 → Fin 256 → ℝ} {Y : Fin 1024 → Fin 256 → ℝ} {w : Fin 512 → ℝ} (H : In V c Z Y w)

include H

section Blocks
variable (t : Fin cfg0.N)

theorem In.z_blk (r : Fin 512) (k : Fin 256) : (show FVec Ideal S512x256 .f32 from iblk0 V c 0 t) (ix2 r k) = (Z (rowOf (pt t) r) k : EReal) := by
  rw [← H.z]
  blk_ext [iblk0, idx0 t, rowOf, pt]

theorem In.y_blk (j : Fin 1024) (k : Fin 256) : (show FVec Ideal S1024x256 .f32 from iblk0 V c 1 t) (ix2 j k) = (Y j k : EReal) := by
  rw [← H.y]
  blk_ext [iblk0, idx0 t]

theorem In.w_blk (r : Fin 512) : (show FVec Ideal S512x1 .f32 from iblk0 V c 5 t) (ix2 r 0) = (w r : EReal) := by
  rw [← H.w]
  blk_ext [iblk0, idx0 t]

theorem In.sq_blk (j : Fin 1024) : (show FVec Ideal S1x1024 .f32 from iblk0 V c 6 t) (ix2 0 j) = ((∑ k, Y j k * Y j k : ℝ) : EReal) := by
  rw [← H.sq]
  blk_ext [iblk0, idx0 t]

theorem In.split_blk (j : Fin 1024) (k : Fin 256) : (show FVec Ideal S1024x256 .bf16 from iblk0 V c 2 t) (ix2 j k)
    + (show FVec Ideal S1024x256 .bf16 from iblk0 V c 3 t) (ix2 j k) + (show FVec Ideal S1024x256 .bf16 from iblk0 V c 4 t) (ix2 j k) = (Y j k : EReal) := by
  rw [← H.split]
  blk_point [iblk0, idx0 t]

/-- The distances of a block's rows. -/
theorem In.dist (r : Fin 512) (j : Fin 1024) :
    k0_pay7 (F := Ideal) (iblk0 V c 0 t) (iblk0 V c 1 t) (iblk0 V c 5 t) (iblk0 V c 6 t) (ix2 r j) = (away Z Y w (rowOf (pt t) r) j : EReal) := by
  rw [away, stepOf_rowOf]
  exact dist_pay (H.z_blk t) (H.y_blk t) (H.w_blk t) (H.sq_blk t) r j

/-- The assignments of a block's rows. -/
theorem In.share (r : Fin 512) (j : Fin 1024) :
    k0_pay8 (F := Ideal) (iblk0 V c 0 t) (iblk0 V c 1 t) (iblk0 V c 5 t) (iblk0 V c 6 t) (ix2 r j) = (assign Z Y w (rowOf (pt t) r) j : EReal) :=
  share_pay (H.dist t) (fun _ _ => away_nonneg ..) r j

/-- The nearest nodes of a block's rows. -/
theorem In.best (r : Fin 512) :
    k0_pay10 (F := Ideal) (k0_pay7 (F := Ideal) (iblk0 V c 0 t) (iblk0 V c 1 t) (iblk0 V c 5 t) (iblk0 V c 6 t)) (ix2 r 0)
      = BitVec.ofNat 32 (node Z Y w (rowOf (pt t) r)) :=
  best_pay (H.dist t) r

theorem In.plain_blk (r : Fin 512) (k : Fin 256) : k0_pay2 (F := Ideal) (iblk0 V c 0 t) (ix2 r k) = (Z (rowOf (pt t) r) k : EReal) := by
  rw [← H.z_blk t r k]; pointwise [k0_pay2]

/-- The moved samples of a block's rows. -/
theorem In.moved (r : Fin 512) (k : Fin 256) :
    k0_pay11 (F := Ideal) (k0_pay2 (F := Ideal) (iblk0 V c 0 t)) (k0_pay7 (F := Ideal) (iblk0 V c 0 t) (iblk0 V c 1 t) (iblk0 V c 5 t) (iblk0 V c 6 t))
      (iblk0 V c 2 t) (iblk0 V c 3 t) (iblk0 V c 4 t) (ix2 r k) = (movedv Z Y w (rowOf (pt t) r) k : EReal) := by
  refine (moved_pay (H.best t) r k).trans ?_
  rw [H.plain_blk t]
  erw [H.split_blk t]
  rw [← EReal.coe_sub, ← EReal.coe_mul, ← EReal.coe_add]; rfl

end Blocks

/-! ## What a grid point leaves in the arrays written block by block -/

omit H in
theorem out_assign (t : Fin cfg0.N) : (outsAt0 V c t.val t.isLt).1
    = k0_pay8 (F := Ideal) (iblk0 V c 0 t) (iblk0 V c 1 t) (iblk0 V c 5 t) (iblk0 V c 6 t) := by
  by_cases h : t.val % 16 = 0
  · rw [outsAt0_A V c t h]; frame_out
  · rw [outsAt0_B V c t h]; frame_out

omit H in
theorem out_moved (t : Fin cfg0.N) : (outsAt0 V c t.val t.isLt).2.1
    = k0_pay11 (F := Ideal) (k0_pay2 (F := Ideal) (iblk0 V c 0 t)) (k0_pay7 (F := Ideal) (iblk0 V c 0 t) (iblk0 V c 1 t) (iblk0 V c 5 t) (iblk0 V c 6 t))
      (iblk0 V c 2 t) (iblk0 V c 3 t) (iblk0 V c 4 t) := by
  by_cases h : t.val % 16 = 0
  · rw [outsAt0_A V c t h]; frame_out
  · rw [outsAt0_B V c t h]; frame_out

omit H in
theorem out_best (t : Fin cfg0.N) : (outsAt0 V c t.val t.isLt).2.2.1
    = k0_pay10 (F := Ideal) (k0_pay7 (F := Ideal) (iblk0 V c 0 t) (iblk0 V c 1 t) (iblk0 V c 5 t) (iblk0 V c 6 t)) := by
  by_cases h : t.val % 16 = 0
  · rw [outsAt0_A V c t h]; frame_out
  · rw [outsAt0_B V c t h]; frame_out

end Cert.KernelIdeal.Arr

end
-- ==== Proof.Arrays.lean ====
/- The first call's arrays over real inputs: assignments, moved samples and nearest nodes block by block, column masses and
   losses accumulated over the sixteen blocks. -/
module

public import proofs.«01_k».proof.Proof.Arr0
public import Idealize.ShloMosaic.Lib.WritesUnit

@[expose] public section

set_option maxRecDepth 16384

noncomputable section

namespace Cert.KernelIdeal.Arr

open Cert.KernelIdeal Cert.KernelIdeal.Gen Cert.KernelIdeal.Pay Cert.Reals Cert.Spec Idealize.ShloMosaic Idealize.ShloMosaic.TcCoe Idealize.SL.Sem

variable {V : (c : Dev nD) → (b : Ref sig .tc) → Buf (Elt Ideal) ((c : Thread nD τ).loc b)} {c : Dev nD}
  {Z : Fin 8192 → Fin 256 → ℝ} {Y : Fin 1024 → Fin 256 → ℝ} {w : Fin 512 → ℝ} (H : In V c Z Y w)

include H

/-! ## The arrays written block by block -/

set_option maxHeartbeats 1600000 in
/-- The assignments' array. -/
theorem In.assign_arr : (dat0 V c).arrAt 7 cfg0.N = fun j : S8192x1024.Idx => (assign Z Y w (j 0) (j 1) : EReal) := by
  refine (dat0 V c).arrAt_eq_of_covers 7 _ (by decide +kernel) fun t hf y => ?_
  blk_simp
  rw [after0_7, out_assign]
  refine (congrArg _ (eq_ix2 y)).trans ((H.share t _ _).trans ?_)
  have e0 : (win0_7.blk t).view.emb y 0 = rowOf (pt t) (y 0) := Fin.ext (by blk_simp [idx0 t, rowOf, pt]; done)
  have e1 : (win0_7.blk t).view.emb y 1 = y 1 := Fin.ext (by blk_simp [idx0 t]; done)
  rw [e0, e1]

/-- The moved samples' array. -/
theorem In.moved_arr : (dat0 V c).arrAt 8 cfg0.N = fun j : S8192x256.Idx => (movedv Z Y w (j 0) (j 1) : EReal) := by
  refine (dat0 V c).arrAt_eq_of_covers 8 _ (by decide +kernel) fun t hf y => ?_
  blk_simp
  rw [after0_8, out_moved]
  refine (congrArg _ (eq_ix2 y)).trans ((H.moved t _ _).trans ?_)
  have e0 : (win0_8.blk t).view.emb y 0 = rowOf (pt t) (y 0) := Fin.ext (by blk_simp [idx0 t, rowOf, pt]; done)
  have e1 : (win0_8.blk t).view.emb y 1 = y 1 := Fin.ext (by blk_simp [idx0 t]; done)
  rw [e0, e1]

/-- The nearest nodes' array. -/
theorem In.best_arr : (dat0 V c).arrAt 9 cfg0.N = fun j : S8192x1.Idx => BitVec.ofNat 32 (node Z Y w (j 0)) := by
  refine (dat0 V c).arrAt_eq_of_covers 9 _ (by decide +kernel) fun t hf y => ?_
  blk_simp
  rw [after0_9, out_best]
  have hy : y = (ix2 (y 0) 0 : S512x1.Idx) := funext fun a => by
    fin_cases a
    · rfl
    · exact Fin.ext (Nat.lt_one_iff.mp (y 1).isLt)
  refine (congrArg _ hy).trans ((H.best t _).trans ?_)
  have e0 : (win0_9.blk t).view.emb y 0 = rowOf (pt t) (y 0) := Fin.ext (by blk_simp [idx0 t, rowOf, pt]; done)
  rw [e0]

/-! ## The accumulated arrays, point by point -/

/-- The column masses at the first point. -/
theorem In.mass_first (t : Fin cfg0.N) (h : t.val % 16 = 0) (j : Fin 1024) : (outsAt0 V c t.val t.isLt).2.2.2.1 (ix2 0 j)
    = ((0 + ∑ r, assign Z Y w (rowOf (pt t) r) j * assign Z Y w (rowOf (pt t) r) j : ℝ) : EReal) := by
  rw [outsAt0_A V c t h]
  frame_out
  refine (canon_hit _ _ _ _ (ix2 0 j : S1x1024.Idx) (fun a => by fin_cases a <;> first | rfl | exact (Nat.zero_add _).symm | exact congrArg (0 + ·) (Nat.one_mul _))).trans ?_
  refine mass_pay (a := 0) (H.share t) j ?_
  rw [View.readCov_eq_canon']
  refine (canon_hit _ _ _ _ (ix2 0 j : S8x1024.Idx) (fun a => by fin_cases a <;> first | rfl | exact (Nat.zero_add _).symm | exact congrArg (0 + ·) (Nat.one_mul _))).trans ?_
  pointwise [k0_pay4]
  exact EReal.coe_zero.symm

/-- The column masses at a later point. -/
theorem In.mass_next (t : Fin cfg0.N) (h : ¬t.val % 16 = 0) (j : Fin 1024) {a : ℝ}
    (ha : (outsAt0 V c (t.val - 1) (Nat.lt_of_le_of_lt (Nat.sub_le _ _) t.isLt)).2.2.2.1 (ix2 0 j) = (a : EReal)) :
    (outsAt0 V c t.val t.isLt).2.2.2.1 (ix2 0 j)
    = ((a + ∑ r, assign Z Y w (rowOf (pt t) r) j * assign Z Y w (rowOf (pt t) r) j : ℝ) : EReal) := by
  rw [outsAt0_B V c t h]
  frame_out
  refine (View.read_writes_cons_unit_of_mem _ _ _ _ _ _ (ix2 0 j : S1x1024.Idx) rfl (fun a => by fin_cases a <;> first | rfl | exact (Nat.zero_add _).symm | exact congrArg (0 + ·) (Nat.one_mul _))).trans ?_
  refine mass_pay (H.share t) j ?_
  rw [← ha]
  exact View.ld_unit_apply_of _ _ _ _ _ _ (fun a => by fin_cases a <;> first | rfl | exact (Nat.zero_add _).symm | exact congrArg (0 + ·) (Nat.one_mul _))

/-- The time-smoothness loss at the first point. -/
theorem In.smooth_first (t : Fin cfg0.N) (h : t.val % 16 = 0) : (outsAt0 V c t.val t.isLt).2.2.2.2 (ix2 0 0)
    = ((0 + stepSum Z (pt t) * (7549747 / 17557826306048) : ℝ) : EReal) := by
  rw [outsAt0_A V c t h]
  frame_out
  refine (canon_miss _ _ _ _ 1 (Or.inl (by decide))).trans ?_
  refine (canon_hit _ _ _ _ (ix2 0 0 : S1x1.Idx) (fun a => by fin_cases a <;> rfl)).trans ?_
  refine smooth_pay (a := 0) (z := fun r k => Z (rowOf (pt t) r) k) (fun r k => (H.plain_blk t r k)) ?_
  rw [View.readCov_eq_canon']
  refine (canon_miss _ _ _ _ 1 (Or.inl (by decide))).trans ?_
  refine (canon_hit _ _ _ _ (ix2 0 0 : S8x128.Idx) (fun a => by fin_cases a <;> rfl)).trans ?_
  pointwise [k0_pay5]
  exact EReal.coe_zero.symm

/-- The time-smoothness loss at a later point. -/
theorem In.smooth_next (t : Fin cfg0.N) (h : ¬t.val % 16 = 0) {a : ℝ}
    (ha : (outsAt0 V c (t.val - 1) (Nat.lt_of_le_of_lt (Nat.sub_le _ _) t.isLt)).2.2.2.2 (ix2 0 0) = (a : EReal)) :
    (outsAt0 V c t.val t.isLt).2.2.2.2 (ix2 0 0) = ((a + stepSum Z (pt t) * (7549747 / 17557826306048) : ℝ) : EReal) := by
  rw [outsAt0_B V c t h]
  frame_out
  refine (View.read_writes_cons_unit_of_not_mem _ _ _ _ _ _ rfl 1 (Or.inl (by decide))).trans ?_
  refine (View.read_writes_cons_unit_of_mem _ _ _ _ _ _ (ix2 0 0 : S1x1.Idx) rfl (fun a => by fin_cases a <;> rfl)).trans ?_
  refine smooth_pay (z := fun r k => Z (rowOf (pt t) r) k) (fun r k => (H.plain_blk t r k)) ?_
  rw [← ha]
  exact View.ld_unit_apply_of _ _ _ _ _ _ (fun a => by fin_cases a <;> rfl)

/-- The neighbourhood loss at the first point. -/
theorem In.near_first (t : Fin cfg0.N) (h : t.val % 16 = 0) : (outsAt0 V c t.val t.isLt).2.2.2.2 (ix2 0 1)
    = ((0 + (hopSum Z Y w (pt t) : ℝ) : ℝ) : EReal) := by
  rw [outsAt0_A V c t h]
  frame_out
  refine (canon_hit _ _ _ _ (ix2 0 0 : S1x1.Idx) (fun a => by fin_cases a <;> rfl)).trans ?_
  refine near_pay (a := 0) (b := fun r => node Z Y w (rowOf (pt t) r)) (H.best t) (row_pay (H.best t)) ?_
  rw [View.readCov_eq_canon']
  refine (canon_miss _ _ _ _ 1 (Or.inr (by decide))).trans ?_
  refine (canon_miss _ _ _ _ 1 (Or.inl (by decide))).trans ?_
  refine (canon_hit _ _ _ _ (ix2 0 1 : S8x128.Idx) (fun a => by fin_cases a <;> rfl)).trans ?_
  pointwise [k0_pay5]
  exact EReal.coe_zero.symm

/-- The neighbourhood loss at a later point. -/
theorem In.near_next (t : Fin cfg0.N) (h : ¬t.val % 16 = 0) {a : ℝ}
    (ha : (outsAt0 V c (t.val - 1) (Nat.lt_of_le_of_lt (Nat.sub_le _ _) t.isLt)).2.2.2.2 (ix2 0 1) = (a : EReal)) :
    (outsAt0 V c t.val t.isLt).2.2.2.2 (ix2 0 1) = ((a + (hopSum Z Y w (pt t) : ℝ) : ℝ) : EReal) := by
  rw [outsAt0_B V c t h]
  frame_out
  refine (View.read_writes_cons_unit_of_mem _ _ _ _ _ _ (ix2 0 0 : S1x1.Idx) rfl (fun a => by fin_cases a <;> rfl)).trans ?_
  refine near_pay (b := fun r => node Z Y w (rowOf (pt t) r)) (H.best t) (row_pay (H.best t)) ?_
  rw [← ha]
  exact View.ld_unit_apply_of _ _ _ _ _ _ (fun a => by fin_cases a <;> rfl)

/-- The diversity loss at the first point. -/
theorem In.div_first (t : Fin cfg0.N) (h : t.val % 16 = 0) : (outsAt0 V c t.val t.isLt).2.2.2.2 (ix2 0 2) = (divv Y : EReal) := by
  rw [outsAt0_A V c t h]
  frame_out
  refine (canon_miss _ _ _ _ 1 (Or.inr (by decide))).trans ?_
  refine (canon_miss _ _ _ _ 1 (Or.inr (by decide))).trans ?_
  refine (canon_hit _ _ _ _ (ix2 0 0 : S1x1.Idx) (fun a => by fin_cases a <;> rfl)).trans ?_
  exact div_pay (H.y_blk t) (H.sq_blk t)

omit H in
/-- The diversity loss at a later point is what it was. -/
theorem div_next (t : Fin cfg0.N) (h : ¬t.val % 16 = 0) : (outsAt0 V c t.val t.isLt).2.2.2.2 (ix2 0 2)
    = (outsAt0 V c (t.val - 1) (Nat.lt_of_le_of_lt (Nat.sub_le _ _) t.isLt)).2.2.2.2 (ix2 0 2) := by
  rw [outsAt0_B V c t h]
  frame_out
  refine (View.read_writes_cons_unit_of_not_mem _ _ _ _ _ _ rfl 1 (Or.inr (by decide))).trans ?_
  refine (View.read_writes_cons_unit_of_not_mem _ _ _ _ _ _ rfl 1 (Or.inr (by decide))).trans ?_
  rw [View.writes_nil, Memref.IsWhole.read_unread]

/-! ## The accumulated arrays after the call -/

/-- The column masses' array. -/
theorem In.mass_arr (j : Fin 1024) :
    (show FVec Ideal S8x1024 .f32 from (dat0 V c).arrAt 10 cfg0.N) (ix2 0 j) = (mass Z Y w j : EReal) := by
  have hs := upto_of_steps N_0 (fun n h => (outsAt0 V c n h).2.2.2.1 (ix2 0 j))
    (fun b => ∑ r, assign Z Y w (rowOf b r) j * assign Z Y w (rowOf b r) j)
    (fun h => (H.mass_first ⟨0, h⟩ rfl j).trans (by rw [zero_add]; rfl))
    (fun n h a ha => H.mass_next ⟨n + 1, h⟩ (by show ¬(n + 1) % 16 = 0; have : n + 1 < 16 := N_0 ▸ h; omega) j ha)
  have ht := hs t0_15.val t0_15.isLt
  rw [show mass Z Y w j = _ from sum_rows _, ← upto_last]
  refine Eq.trans ?_ ht
  refine congrFun ((dat0 V c).arrAt_eq_of_after_last 10 t0_15 (by decide +kernel) (outsAt0 V c t0_15.val t0_15.isLt).2.2.2.1 fun j => ?_) _
  blk_simp
  rw [after0_10]

omit H in
/-- The losses' array is what the last point left. -/
theorem misc_arr : (dat0 V c).arrAt 11 cfg0.N = (outsAt0 V c t0_15.val t0_15.isLt).2.2.2.2 := by
  refine (dat0 V c).arrAt_eq_of_after_last 11 t0_15 (by decide +kernel) _ fun j => ?_
  blk_simp
  rw [after0_11]

/-- The time-smoothness loss. -/
theorem In.smooth_arr :
    (show FVec Ideal S8x128 .f32 from (dat0 V c).arrAt 11 cfg0.N) (ix2 0 0) = (smoothv Z : EReal) := by
  have hs := upto_of_steps N_0 (fun n h => (outsAt0 V c n h).2.2.2.2 (ix2 0 0)) (fun b => stepSum Z b * (7549747 / 17557826306048))
    (fun h => (H.smooth_first ⟨0, h⟩ rfl).trans (by rw [zero_add]; rfl))
    (fun n h a ha => H.smooth_next ⟨n + 1, h⟩ (by show ¬(n + 1) % 16 = 0; have : n + 1 < 16 := N_0 ▸ h; omega) ha)
  rw [smoothv, ← upto_last]
  exact (congrFun misc_arr _).trans (hs t0_15.val t0_15.isLt)

/-- The neighbourhood loss before its division. -/
theorem In.near_arr :
    (show FVec Ideal S8x128 .f32 from (dat0 V c).arrAt 11 cfg0.N) (ix2 0 1) = ((∑ b, (hopSum Z Y w b : ℝ) : ℝ) : EReal) := by
  have hs := upto_of_steps N_0 (fun n h => (outsAt0 V c n h).2.2.2.2 (ix2 0 1)) (fun b => (hopSum Z Y w b : ℝ))
    (fun h => (H.near_first ⟨0, h⟩ rfl).trans (by rw [zero_add]; rfl))
    (fun n h a ha => H.near_next ⟨n + 1, h⟩ (by show ¬(n + 1) % 16 = 0; have : n + 1 < 16 := N_0 ▸ h; omega) ha)
  rw [← upto_last]
  exact (congrFun misc_arr _).trans (hs t0_15.val t0_15.isLt)

/-- The diversity loss. -/
theorem In.div_arr :
    (show FVec Ideal S8x128 .f32 from (dat0 V c).arrAt 11 cfg0.N) (ix2 0 2) = (divv Y : EReal) := by
  have hs : ∀ n (h : n < cfg0.N), (outsAt0 V c n h).2.2.2.2 (ix2 0 2) = (divv Y : EReal) := fun n => by
    induction n with
    | zero => exact fun h => H.div_first ⟨0, h⟩ rfl
    | succ n ih =>
      exact fun h => (div_next ⟨n + 1, h⟩ (by show ¬(n + 1) % 16 = 0; have : n + 1 < 16 := N_0 ▸ h; omega)).trans (ih (Nat.lt_of_succ_lt h))
  exact (congrFun misc_arr _).trans (hs t0_15.val t0_15.isLt)

end Cert.KernelIdeal.Arr

end
-- ==== Proof.Arr1.lean ====
/- The second call over real inputs: the rows' divergences summed over the sixteen blocks, then averaged. -/
module

public import proofs.«01_k».proof.Proof.Arr0
public import Idealize.ShloMosaic.Lib.WritesUnit

@[expose] public section

set_option maxRecDepth 16384

noncomputable section

namespace Cert.KernelIdeal.Arr

open Cert.KernelIdeal Cert.KernelIdeal.Gen Cert.KernelIdeal.Pay Cert.Reals Cert.Spec Idealize.ShloMosaic Idealize.ShloMosaic.TcCoe Idealize.SL.Sem

variable (V : (c : Dev nD) → (b : Ref sig .tc) → Buf (Elt Ideal) ((c : Thread nD τ).loc b)) (c : Dev nD)

/-- The number of a grid point of the second call. -/
def pt1 (t : Fin cfg1.N) : Fin 16 := ⟨t.val, lt_of_lt_of_eq t.isLt N_1⟩

theorem idx1 : ∀ t : Fin cfg1.N, win1_0.index t = ![t.val, 0] ∧ win1_1.index t = ![0, 0] ∧ win1_2.index t = ![0, 0] :=
  (by decide +kernel : ∀ t : Fin grid1.N, _)

/-- What the second call's input arrays hold, over the reals: positive assignments and positive column masses. -/
structure In1 (q : Fin 8192 → Fin 1024 → ℝ) (s : Fin 1024 → ℝ) : Prop where
  assign : ∀ i j, (show FVec Ideal S8192x1024 .f32 from V c main_v20_0) (ix2 i j) = (q i j : EReal)
  mass : ∀ j, (show FVec Ideal S8x1024 .f32 from V c main_v20_3) (ix2 0 j) = (s j : EReal)
  q_pos : ∀ i j, 0 < q i j
  s_pos : ∀ j, 0 < s j

variable {V c} {q : Fin 8192 → Fin 1024 → ℝ} {s : Fin 1024 → ℝ} (H : In1 V c q s)

include H

theorem In1.q_blk (t : Fin cfg1.N) (r : Fin 512) (j : Fin 1024) :
    (show FVec Ideal S512x1024 .f32 from iblk1 V c 0 t) (ix2 r j) = (q (rowOf (pt1 t) r) j : EReal) := by
  rw [← H.assign]
  blk_ext [iblk1, idx1 t, rowOf, pt1]

theorem In1.s_blk (t : Fin cfg1.N) (j : Fin 1024) : (show FVec Ideal S8x1024 .f32 from iblk1 V c 1 t) (ix2 0 j) = (s j : EReal) := by
  rw [← H.mass]
  blk_ext [iblk1, idx1 t]

theorem In1.s_row (t : Fin cfg1.N) (j : Fin 1024) :
    (View.ld (iblk1 V c 1 t) (Rect.unit ![0, 0] ![1, 1024] inb_S8x1024_S1x1024_0_0) : Vec Ideal S1x1024 .f32) (ix2 0 j) = (s j : EReal) :=
  (View.ld_unit_apply_of _ _ _ _ _ (ix2 0 j : S8x1024.Idx)
    (fun a => by fin_cases a <;> first | rfl | exact (Nat.zero_add _).symm | exact congrArg (0 + ·) (Nat.one_mul _))).trans (H.s_blk t j)

/-- The sum of the divergences at the first point. -/
theorem In1.kl_first (t : Fin cfg1.N) (h0 : t.val % 16 = 0) (h1 : ¬t.val % 16 = 15) : outsAt1 V c t.val t.isLt (ix2 0 0)
    = ((0 + ∑ r, klRow (q (rowOf (pt1 t) r)) s : ℝ) : EReal) := by
  rw [outsAt1_A V c t h0 h1]
  frame_out
  refine (canon_hit _ _ _ _ (ix2 0 0 : S1x1.Idx) (fun a => by fin_cases a <;> rfl)).trans ?_
  refine kl_pay (a := 0) (H.q_blk t) (H.s_row t) ?_ (fun _ _ => H.q_pos ..) H.s_pos
  rw [View.readCov_eq_canon']
  refine (canon_hit _ _ _ _ (ix2 0 0 : S8x128.Idx) (fun a => by fin_cases a <;> rfl)).trans ?_
  pointwise [k1_pay1]
  exact EReal.coe_zero.symm

/-- The sum of the divergences at a later point but the last. -/
theorem In1.kl_next (t : Fin cfg1.N) (h0 : ¬t.val % 16 = 0) (h1 : ¬t.val % 16 = 15) {a : ℝ}
    (ha : outsAt1 V c (t.val - 1) (Nat.lt_of_le_of_lt (Nat.sub_le _ _) t.isLt) (ix2 0 0) = (a : EReal)) :
    outsAt1 V c t.val t.isLt (ix2 0 0) = ((a + ∑ r, klRow (q (rowOf (pt1 t) r)) s : ℝ) : EReal) := by
  rw [outsAt1_B V c t h0 h1]
  frame_out
  refine (View.read_writes_cons_unit_of_mem _ _ _ _ _ _ (ix2 0 0 : S1x1.Idx) rfl (fun a => by fin_cases a <;> rfl)).trans ?_
  refine kl_pay (H.q_blk t) (H.s_row t) ?_ (fun _ _ => H.q_pos ..) H.s_pos
  rw [← ha]
  exact View.ld_unit_apply_of _ _ _ _ _ _ (fun a => by fin_cases a <;> rfl)

/-- The mean of the divergences, at the last point. -/
theorem In1.kl_last (t : Fin cfg1.N) (h0 : ¬t.val % 16 = 0) (h1 : t.val % 16 = 15) {a : ℝ}
    (ha : outsAt1 V c (t.val - 1) (Nat.lt_of_le_of_lt (Nat.sub_le _ _) t.isLt) (ix2 0 0) = (a : EReal)) :
    outsAt1 V c t.val t.isLt (ix2 0 0) = (((a + ∑ r, klRow (q (rowOf (pt1 t) r)) s) / 8192 : ℝ) : EReal) := by
  rw [outsAt1_C V c t h0 h1]
  frame_out
  refine (View.read_writes_cons_unit_of_mem _ _ _ _ _ _ (ix2 0 0 : S1x1.Idx) rfl (fun a => by fin_cases a <;> rfl)).trans ?_
  refine mean_pay ?_
  rw [View.readCov_eq_canon']
  refine (canon_hit _ _ _ _ (ix2 0 0 : S1x1.Idx) (fun a => by fin_cases a <;> rfl)).trans ?_
  refine kl_pay (H.q_blk t) (H.s_row t) ?_ (fun _ _ => H.q_pos ..) H.s_pos
  rw [← ha]
  exact View.ld_unit_apply_of _ _ _ _ _ _ (fun a => by fin_cases a <;> rfl)

/-- The sum of the divergences of the blocks so far, before the last point. -/
theorem In1.kl_upto (n : ℕ) : ∀ h : n < cfg1.N, n < 15 →
    outsAt1 V c n h (ix2 0 0) = ((upto (fun b => ∑ r, klRow (q (rowOf b r)) s) n : ℝ) : EReal) := by
  induction n with
  | zero => exact fun h _ => (H.kl_first ⟨0, h⟩ rfl (by show ¬0 % 16 = 15; omega)).trans (by rw [zero_add, upto_zero]; rfl)
  | succ n ih =>
    intro h hn
    refine (H.kl_next ⟨n + 1, h⟩ (by show ¬(n + 1) % 16 = 0; omega) (by show ¬(n + 1) % 16 = 15; omega) (ih (Nat.lt_of_succ_lt h) (by omega))).trans ?_
    rw [upto_succ _ (by omega)]; rfl

/-- The divergence loss. -/
theorem In1.kl_arr :
    (show FVec Ideal S8x128 .f32 from (dat1 V c).arrAt 2 cfg1.N) (ix2 0 0) = (((∑ i, klRow (q i) s) / 8192 : ℝ) : EReal) := by
  have h1 : (dat1 V c).arrAt 2 cfg1.N = outsAt1 V c t1_15.val t1_15.isLt := by
    refine (dat1 V c).arrAt_eq_of_after_last 2 t1_15 (by decide +kernel) _ fun j => ?_
    blk_simp
    rw [after1_2]
  have h2 := H.kl_last t1_15 (by decide) (by decide) (H.kl_upto 14 (lt_of_lt_of_eq (by omega) N_1.symm) (by omega))
  refine (congrFun h1 _).trans (h2.trans ?_)
  rw [sum_rows, ← upto_last, upto_succ _ (by omega : 14 + 1 < 16)]
  rfl

end Cert.KernelIdeal.Arr

end
-- ==== Proof.KValue.lean ====
/- The kernel program's results over real arguments. -/
module

public import proofs.«01_k».proof.Proof.Inputs
public import proofs.«01_k».proof.Proof.Arrays
public import proofs.«01_k».proof.Proof.Arr1
public import Idealize.ShloMosaic.Lib.StableHlo.RunRead

@[expose] public section

set_option maxRecDepth 16384

noncomputable section

namespace Cert.KernelIdeal.Value

open Cert.KernelIdeal Cert.KernelIdeal.Gen Cert.KernelIdeal.Arr Cert.Reals Cert.Spec Idealize.ShloMosaic Idealize.ShloMosaic.TcCoe Idealize.SL.Sem
  Idealize.ShloMosaic.StableHlo

variable (m : (ℓ : Loc nD τ sig) → Buf (Elt Ideal) ℓ) (ρ : Dev nD → PrngReg) (c : Dev nD)

section Reads
variable (W : Valuation τ sig (Elt Ideal))

/-! ## What the host operations before the calls leave -/

theorem read_v0 (i : Fin 8192) (k : Fin 256) : (show FVec Ideal S8192x256 .f32 from after hostOps0 W (Proc.devRef .tc main_v0)) (ix2 i k)
    = (show FVec Ideal S16x512x256 .f32 from W (Proc.devRef .tc main_arg0)) (ix3 ⟨i.val / 512, by omega⟩ ⟨i.val % 512, by omega⟩ k) := by
  after_reads_simp
  pointwise

theorem read_v1 (i : Fin 1024) (k : Fin 256) : (show FVec Ideal S1024x256 .f32 from after hostOps0 W (Proc.devRef .tc main_v1)) (ix2 i k)
    = (show FVec Ideal S32x32x256 .f32 from W (Proc.devRef .tc main_arg1)) (ix3 ⟨i.val / 32, by omega⟩ ⟨i.val % 32, by omega⟩ k) := by
  after_reads_simp
  pointwise

/-- A node's three parts add up to the node. -/
theorem read_split {y : Fin 1024 → Fin 256 → ℝ} (hy : ∀ i k, (show FVec Ideal S32x32x256 .f32 from W (Proc.devRef .tc main_arg1))
      (ix3 ⟨i.val / 32, by omega⟩ ⟨i.val % 32, by omega⟩ k) = (y i k : EReal)) (i : Fin 1024) (k : Fin 256) :
    (show FVec Ideal S1024x256 .bf16 from after hostOps0 W (Proc.devRef .tc main_v13)) (ix2 i k)
      + (show FVec Ideal S1024x256 .bf16 from after hostOps0 W (Proc.devRef .tc main_v16)) (ix2 i k)
      + (show FVec Ideal S1024x256 .bf16 from after hostOps0 W (Proc.devRef .tc main_v19)) (ix2 i k) = (y i k : EReal) := by
  after_reads_simp
  pointwise
  simp only [show W (Proc.devRef .tc main_arg1) (ix3 (⟨i.val / 32, by omega⟩ : Fin 32) (⟨i.val % 32, by omega⟩ : Fin 32) k) = (y i k : EReal) from hy i k, ← EReal.coe_sub, ← EReal.coe_add]
  rw [sub_self, sub_self, add_zero, add_zero]

theorem read_v9 (t : Fin 512) : (show FVec Ideal S512x1 .f32 from after hostOps0 W (Proc.devRef .tc main_v9)) (ix2 t 0) = (decay t : EReal) := by
  after_reads_simp
  pointwise
  exact decay_word t

theorem read_v12 {y : Fin 1024 → Fin 256 → ℝ} (hy : ∀ i k, (show FVec Ideal S32x32x256 .f32 from W (Proc.devRef .tc main_arg1))
      (ix3 ⟨i.val / 32, by omega⟩ ⟨i.val % 32, by omega⟩ k) = (y i k : EReal)) (j : Fin 1024) :
    (show FVec Ideal S1x1024 .f32 from after hostOps0 W (Proc.devRef .tc main_v12)) (ix2 0 j) = ((∑ k, y j k * y j k : ℝ) : EReal) := by
  after_reads_simp
  pointwise
  rw [coe_sum]
  refine Finset.sum_congr rfl fun k _ => ?_
  rw [EReal.coe_mul, ← hy]

/-! ## What the host operations after the calls leave -/

theorem read_v37 (j : S16x512x256.Idx) : (show FVec Ideal S16x512x256 .f32 from after hostOps2 W (Proc.devRef .tc main_v37)) j
    = (show FVec Ideal S8192x256 .f32 from W (Proc.devRef .tc main_v20_1)) (ix2 (rowOf (j 0) (j 1)) (j 2)) := by
  after_reads_simp
  pointwise
  rfl

theorem read_v38 (j : S16x512.Idx) : (show IVec S16x512 32 from after hostOps2 W (Proc.devRef .tc main_v38)) j
    = (show IVec S8192x1 32 from W (Proc.devRef .tc main_v20_2)) (ix2 (rowOf (j 0) (j 1)) 0) := by
  after_reads_simp
  pointwise
  rfl

theorem read_v23 (j : S_.Idx) : (show FVec Ideal S_ .f32 from after hostOps2 W (Proc.devRef .tc main_v23)) j
    = (show FVec Ideal S8x128 .f32 from W (Proc.devRef .tc main_v21)) (ix2 0 0) := by
  after_reads_simp
  pointwise

theorem read_v25 (j : S_.Idx) : (show FVec Ideal S_ .f32 from after hostOps2 W (Proc.devRef .tc main_v25)) j
    = (show FVec Ideal S8x128 .f32 from W (Proc.devRef .tc main_v20_4)) (ix2 0 2) := by
  after_reads_simp
  pointwise

theorem read_v27 (j : S_.Idx) : (show FVec Ideal S_ .f32 from after hostOps2 W (Proc.devRef .tc main_v27)) j
    = (show FVec Ideal S8x128 .f32 from W (Proc.devRef .tc main_v20_4)) (ix2 0 0) := by
  after_reads_simp
  pointwise

theorem read_v30 (j : S_.Idx) : (show FVec Ideal S_ .f32 from after hostOps2 W (Proc.devRef .tc main_v30)) j
    = Ideal.div ((show FVec Ideal S8x128 .f32 from W (Proc.devRef .tc main_v20_4)) (ix2 0 1)) (Ideal.ofBits .f32 0x45FF8000#32) := by
  after_reads_simp
  pointwise

theorem read_v36 (j : S_.Idx) : (show FVec Ideal S_ .f32 from after hostOps2 W (Proc.devRef .tc main_v36)) j
    = (((show FVec Ideal S8x128 .f32 from W (Proc.devRef .tc main_v21)) (ix2 0 0)
      + Ideal.ofBits .f32 0x3F000000#32 * (show FVec Ideal S8x128 .f32 from W (Proc.devRef .tc main_v20_4)) (ix2 0 2))
      + Ideal.ofBits .f32 0x3E99999A#32 * (show FVec Ideal S8x128 .f32 from W (Proc.devRef .tc main_v20_4)) (ix2 0 0))
      + Ideal.ofBits .f32 0x3E4CCCCD#32
        * Ideal.div ((show FVec Ideal S8x128 .f32 from W (Proc.devRef .tc main_v20_4)) (ix2 0 1)) (Ideal.ofBits .f32 0x45FF8000#32) := by
  after_reads_simp
  pointwise

end Reads

/-! ## The results -/

section Results
variable {Z : Fin 8192 → Fin 256 → ℝ} {Y : Fin 1024 → Fin 256 → ℝ}
  (G : Given (m ((c : Thread nD τ).loc main_arg0)) (m ((c : Thread nD τ).loc main_arg1)) Z Y)

include G

/-- The first call's inputs over the reals. -/
theorem inputs : In (V1 m ρ) c Z Y decay :=
  have hy : ∀ (i : Fin 1024) (k : Fin 256), (show FVec Ideal S32x32x256 .f32 from W0 m ρ c (Proc.devRef .tc main_arg1))
      (ix3 ⟨i.val / 32, by omega⟩ ⟨i.val % 32, by omega⟩ k) = (Y i k : EReal) := fun i k => (G.n _ _ _).trans (by rw [cellOf_parts])
  { z := fun i k => (read_v0 (W0 m ρ c) i k).trans ((G.z _ _ _).trans (by rw [rowOf_parts]))
    y := fun i k => (read_v1 (W0 m ρ c) i k).trans (hy i k)
    split := read_split (W0 m ρ c) hy
    w := read_v9 (W0 m ρ c)
    sq := read_v12 (W0 m ρ c) hy }

/-- The second call's inputs over the reals. -/
theorem inputs1 : In1 (V2 m ρ) c (assign Z Y decay) (mass Z Y decay) where
  assign i j := congrFun ((W2_arr m ρ c 7).trans (inputs m ρ c G).assign_arr) (ix2 i j)
  mass j := (congrFun (W2_arr m ρ c 10) (ix2 0 j)).trans ((inputs m ρ c G).mass_arr j)
  q_pos := assign_pos Z Y decay
  s_pos := mass_pos Z Y decay

omit G in
/-- The second call leaves the first's outputs as they are. -/
theorem kept (w : Fin cfg0.W) (h : ∀ w' : Fin cfg1.W, Pipeline.arrRef spec1 w' = Pipeline.arrRef spec0 w → (cfg1.win w').isOut = false) :
    W3 m ρ c (Proc.devRef .tc (Pipeline.arrRef spec0 w)) = (dat0 (V1 m ρ) c).arrAt w cfg0.N :=
  (W3_of m ρ c _ h).trans (W2_arr m ρ c w)

theorem som_value : W4 m ρ c (Proc.devRef .tc main_v37) = somArr Z Y :=
  funext fun j => (read_v37 (W3 m ρ c) j).trans (congrFun ((kept m ρ c 8 (by decide)).trans (inputs m ρ c G).moved_arr) _)

theorem bmu_value : W4 m ρ c (Proc.devRef .tc main_v38) = bmuArr Z Y :=
  funext fun j => (read_v38 (W3 m ρ c) j).trans (congrFun ((kept m ρ c 9 (by decide)).trans (inputs m ρ c G).best_arr) _)

theorem q_value : W4 m ρ c (Proc.devRef .tc main_v20_0) = qArr Z Y :=
  (W4_of m ρ c main_v20_0 (by decide)).trans ((kept m ρ c 7 (by decide)).trans (inputs m ρ c G).assign_arr)

theorem kl_entry : (show FVec Ideal S8x128 .f32 from W3 m ρ c (Proc.devRef .tc main_v21)) (ix2 0 0) = (klv Z Y decay : EReal) :=
  (congrFun (W3_arr m ρ c 2) _).trans (inputs1 m ρ c G).kl_arr

theorem div_entry : (show FVec Ideal S8x128 .f32 from W3 m ρ c (Proc.devRef .tc main_v20_4)) (ix2 0 2) = (divv Y : EReal) :=
  (congrFun (kept m ρ c 11 (by decide)) _).trans (inputs m ρ c G).div_arr

theorem smooth_entry : (show FVec Ideal S8x128 .f32 from W3 m ρ c (Proc.devRef .tc main_v20_4)) (ix2 0 0) = (smoothv Z : EReal) :=
  (congrFun (kept m ρ c 11 (by decide)) _).trans (inputs m ρ c G).smooth_arr

theorem near_entry : Ideal.div ((show FVec Ideal S8x128 .f32 from W3 m ρ c (Proc.devRef .tc main_v20_4)) (ix2 0 1)) (Ideal.ofBits .f32 0x45FF8000#32)
    = (nearv Z Y decay : EReal) := by
  rw [show (show FVec Ideal S8x128 .f32 from W3 m ρ c (Proc.devRef .tc main_v20_4)) (ix2 0 1) = _ from
    (congrFun (kept m ρ c 11 (by decide)) _).trans (inputs m ρ c G).near_arr, word_moves, div_coe (by norm_num)]
  rfl

theorem kl_value : W4 m ρ c (Proc.devRef .tc main_v23) = scalar (klv Z Y decay) :=
  funext fun j => (read_v23 (W3 m ρ c) j).trans (kl_entry m ρ c G)

theorem div_value : W4 m ρ c (Proc.devRef .tc main_v25) = scalar (divv Y) :=
  funext fun j => (read_v25 (W3 m ρ c) j).trans (div_entry m ρ c G)

theorem smooth_value : W4 m ρ c (Proc.devRef .tc main_v27) = scalar (smoothv Z) :=
  funext fun j => (read_v27 (W3 m ρ c) j).trans (smooth_entry m ρ c G)

theorem near_value : W4 m ρ c (Proc.devRef .tc main_v30) = scalar (nearv Z Y decay) :=
  funext fun j => (read_v30 (W3 m ρ c) j).trans (near_entry m ρ c G)

theorem total_value : W4 m ρ c (Proc.devRef .tc main_v36) = scalar (totalv Z Y) :=
  funext fun j => (read_v36 (W3 m ρ c) j).trans (by
    rw [kl_entry m ρ c G, div_entry m ρ c G, smooth_entry m ρ c G, near_entry m ρ c G]; rfl)

end Results

end Cert.KernelIdeal.Value

end
-- ==== Proof.KRun.lean ====
/- The idealized kernel's run: every weakly fair execution ends with each buffer of the program at what its host operations
   and its two calls leave there. -/
module

public import proofs.«01_k».proof.Proof.Gen.KernelIdeal.Frame

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution ends with each buffer of the program at the contents that the last host operations leave. -/
theorem run_ends : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => h)

/-- The buffers named here end at the contents that the last host operations leave, the arguments as launched. -/
theorem run_results : θ_run defs (onTc (τ := τ) (main (F := F))) ⟨m, fun _ => 0, ρ⟩ (fun r => ∀ c : Dev nD,
      r.2.mem ((c.tc : Thread nD τ).loc main_v37) = W4 m ρ c (Proc.devRef .tc main_v37)
      ∧ r.2.mem ((c.tc : Thread nD τ).loc main_v36) = W4 m ρ c (Proc.devRef .tc main_v36)
      ∧ r.2.mem ((c.tc : Thread nD τ).loc main_v23) = W4 m ρ c (Proc.devRef .tc main_v23)
      ∧ r.2.mem ((c.tc : Thread nD τ).loc main_v25) = W4 m ρ c (Proc.devRef .tc main_v25)
      ∧ r.2.mem ((c.tc : Thread nD τ).loc main_v27) = W4 m ρ c (Proc.devRef .tc main_v27)
      ∧ r.2.mem ((c.tc : Thread nD τ).loc main_v30) = W4 m ρ c (Proc.devRef .tc main_v30)
      ∧ r.2.mem ((c.tc : Thread nD τ).loc main_v20_0) = W4 m ρ c (Proc.devRef .tc main_v20_0)
      ∧ r.2.mem ((c.tc : Thread nD τ).loc main_v38) = W4 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨h c _ (mem_uc main_v37 (by decide)), h c _ (mem_uc main_v36 (by decide)), h c _ (mem_uc main_v23 (by decide)),
      h c _ (mem_uc main_v25 (by decide)), h c _ (mem_uc main_v27 (by decide)), h c _ (mem_uc main_v30 (by decide)),
      h c _ (mem_uc main_v20_0 (by decide)), h c _ (mem_uc main_v38 (by decide)),
      (h c _ (mem_uc main_arg0 (by decide))).trans (W4_main_arg0 m ρ c),
      (h c _ (mem_uc main_arg1 (by decide))).trans (W4_main_arg1 m ρ c)⟩) (run_ends m ρ)

end Cert.KernelIdeal.Gen

end
-- ==== Proof.RefOps.lean ====
/- The reference program as lists of its host operations, one list for each step of the mathematics, in program order:
   a called function's operations stand in its call's place. The program is the lists run one after the other (`main_eq`). -/
module

public import proofs.«01_k».proof.Proof.Gen.ReferenceIdeal
public import Idealize.ShloMosaic.Lib.StableHlo.Run
public import Idealize.ShloMosaic.Lib.StableHlo.RunRead
public import Idealize.ShloMosaic.Lib.Pipeline.Frame

@[expose] public section

set_option Elab.async false

noncomputable section

namespace Cert.ReferenceIdeal.Steps

open Cert.ReferenceIdeal Cert.ReferenceIdeal.Gen Idealize.ShloMosaic Idealize.ShloMosaic.TcCoe Idealize.SL.Sem Idealize.ShloMosaic.StableHlo

variable {F : FTy → Type} [FloatOps F]

/-- The contents of a buffer of shape `S` and element type `e`. -/
abbrev A (F : FTy → Type) (S : Shape) (e : EltTy) : Type := (⟨S, e⟩ : BufTy).Contents (Elt F)

/-- The operations that compute the decay weight of each time step. -/
def opsWeights : List (HloOp τ sig (Elt F)) :=
  [ nullary main_v0 (sitofp .f32 (iotaInDim S512 32 0)),
    nullary main_cst (constant S_ .f32 0x44000000#32),
    unary main_cst main_v1 (broadcastInDim S512 ![] bcast_S_S512 : A F S_ .f32 → A F S512 .f32),
    binary main_v1 main_v0 main_v2 (subf : A F S512 .f32 → A F S512 .f32 → A F S512 .f32),
    nullary main_cst_0 (constant S_ .f32 0x3F800000#32),
    unary main_cst_0 main_v3 (broadcastInDim S512 ![] bcast_S_S512 : A F S_ .f32 → A F S512 .f32),
    binary main_v2 main_v3 main_v4 (subf : A F S512 .f32 → A F S512 .f32 → A F S512 .f32),
    nullary main_cst_1 (constant S_ .f32 0x3F666666#32),
    unary main_cst_1 main_v5 (broadcastInDim S512 ![] bcast_S_S512 : A F S_ .f32 → A F S512 .f32),
    binary main_v5 main_v4 main_v6 (Host.powf : A F S512 .f32 → A F S512 .f32 → A F S512 .f32) ]

/-- The buffers they write. -/
abbrev wWeights : List (Ref sig .tc) :=
  [main_v0, main_cst, main_v1, main_v2, main_cst_0, main_v3, main_v4, main_cst_1, main_v5, main_v6]

/-- The operations that compute the weighted samples and the codebook, as matrices. -/
def opsInputs : List (HloOp τ sig (Elt F)) :=
  [ reshape main_v6 main_v7 (rfl : (.f32 : EltTy) = .f32) shapeCasts_S512_S1x512x1,
    unary main_v7 main_v8 (broadcastInDim S16x512x256 ![0, 1, 2] bcast_S1x512x1_S16x512x256_0_1_2 : A F S1x512x1 .f32 → A F S16x512x256 .f32),
    binary main_arg0 main_v8 main_v9 (mulf : A F S16x512x256 .f32 → A F S16x512x256 .f32 → A F S16x512x256 .f32),
    reshape main_v9 main_v10 (rfl : (.f32 : EltTy) = .f32) shapeCasts_S16x512x256_S8192x256,
    reshape main_arg1 main_v11 (rfl : (.f32 : EltTy) = .f32) shapeCasts_S32x32x256_S1024x256 ]

/-- The buffers they write. -/
abbrev wInputs : List (Ref sig .tc) :=
  [main_v7, main_v8, main_v9, main_v10, main_v11]

/-- The operations that compute the distances of every sample to every node. -/
def opsDist : List (HloOp τ sig (Elt F)) :=
  [ binary main_v10 main_v10 main_v12 (mulf : A F S8192x256 .f32 → A F S8192x256 .f32 → A F S8192x256 .f32),
    nullary main_cst_2 (constant S_ .f32 0x00000000#32),
    binary main_v12 main_cst_2 main_v13 ((fun x v => Host.reduceAdd x v reducesTo_S8192x256_S8192_d1 h_S_) : A F S8192x256 .f32 → A F S_ .f32 → A F S8192 .f32),
    unary main_v13 main_v14 (broadcastInDim S8192x1 ![0] bcast_S8192_S8192x1_0 : A F S8192 .f32 → A F S8192x1 .f32),
    binary main_v11 main_v11 main_v15 (mulf : A F S1024x256 .f32 → A F S1024x256 .f32 → A F S1024x256 .f32),
    nullary main_cst_3 (constant S_ .f32 0x00000000#32),
    binary main_v15 main_cst_3 main_v16 ((fun x v => Host.reduceAdd x v reducesTo_S1024x256_S1024_d1 h_S_) : A F S1024x256 .f32 → A F S_ .f32 → A F S1024 .f32),
    unary main_v16 main_v17 (broadcastInDim S1x1024 ![1] bcast_S1024_S1x1024_1 : A F S1024 .f32 → A F S1x1024 .f32),
    unary main_v14 main_v18 (broadcastInDim S8192x1024 ![0, 1] bcast_S8192x1_S8192x1024_0_1 : A F S8192x1 .f32 → A F S8192x1024 .f32),
    unary main_v17 main_v19 (broadcastInDim S8192x1024 ![0, 1] bcast_S1x1024_S8192x1024_0_1 : A F S1x1024 .f32 → A F S8192x1024 .f32),
    binary main_v18 main_v19 main_v20 (addf : A F S8192x1024 .f32 → A F S8192x1024 .f32 → A F S8192x1024 .f32),
    unary main_v11 main_v21 ((transpose S256x1024 [1, 0] · transposes_S1024x256_S256x1024_1_0) : A F S1024x256 .f32 → A F S256x1024 .f32),
    binary main_v10 main_v21 main_v22 ((fun l r => Host.dotGeneral dot_S8192x256_S256x1024_S8192x1024_1_0_0_1_n_n none l r) : A F S8192x256 .f32 → A F S256x1024 .f32 → A F S8192x1024 .f32),
    nullary main_cst_4 (constant S_ .f32 0x40000000#32),
    unary main_cst_4 main_v23 (broadcastInDim S8192x1024 ![] bcast_S_S8192x1024 : A F S_ .f32 → A F S8192x1024 .f32),
    binary main_v23 main_v22 main_v24 (mulf : A F S8192x1024 .f32 → A F S8192x1024 .f32 → A F S8192x1024 .f32),
    binary main_v20 main_v24 main_v25 (subf : A F S8192x1024 .f32 → A F S8192x1024 .f32 → A F S8192x1024 .f32),
    nullary main_cst_5 (constant S_ .f32 0x00000000#32),
    unary main_cst_5 main_v26 (broadcastInDim S8192x1024 ![] bcast_S_S8192x1024 : A F S_ .f32 → A F S8192x1024 .f32),
    binary main_v25 main_v26 main_v27 (maximumf : A F S8192x1024 .f32 → A F S8192x1024 .f32 → A F S8192x1024 .f32),
    nullary main_cst_6 (constant S_ .f32 0x00000000#32),
    unary main_cst_6 main_v28 (broadcastInDim S8192x1024 ![] bcast_S_S8192x1024 : A F S_ .f32 → A F S8192x1024 .f32),
    binary main_v27 main_v28 main_v29 (cmpf .ogt : A F S8192x1024 .f32 → A F S8192x1024 .f32 → A F S8192x1024 .i1),
    nullary main_cst_7 (constant S_ .f32 0x3F800000#32),
    unary main_cst_7 main_call0_v0 (id : A F S_ .f32 → A F S_ .f32),
    unary main_call0_v0 main_call0_v1 (broadcastInDim S8192x1024 ![] bcast_S_S8192x1024 : A F S_ .f32 → A F S8192x1024 .f32),
    ternary main_v29 main_v27 main_call0_v1 main_v30 (select : A F S8192x1024 .i1 → A F S8192x1024 .f32 → A F S8192x1024 .f32 → A F S8192x1024 .f32),
    unary main_v30 main_v31 (Host.sqrt : A F S8192x1024 .f32 → A F S8192x1024 .f32),
    nullary main_cst_8 (constant S_ .f32 0x00000000#32),
    unary main_cst_8 main_call1_v0 (id : A F S_ .f32 → A F S_ .f32),
    unary main_call1_v0 main_call1_v1 (broadcastInDim S8192x1024 ![] bcast_S_S8192x1024 : A F S_ .f32 → A F S8192x1024 .f32),
    ternary main_v29 main_v31 main_call1_v1 main_v32 (select : A F S8192x1024 .i1 → A F S8192x1024 .f32 → A F S8192x1024 .f32 → A F S8192x1024 .f32) ]

/-- The buffers they write. -/
abbrev wDist : List (Ref sig .tc) :=
  [main_v12, main_cst_2, main_v13, main_v14, main_v15, main_cst_3, main_v16, main_v17, main_v18, main_v19, main_v20, main_v21, main_v22, main_cst_4, main_v23, main_v24, main_v25, main_cst_5, main_v26, main_v27, main_cst_6, main_v28, main_v29, main_cst_7, main_call0_v0, main_call0_v1, main_v30, main_v31, main_cst_8, main_call1_v0, main_call1_v1, main_v32]

/-- The operations that compute the soft assignments. -/
def opsSoft : List (HloOp τ sig (Elt F)) :=
  [ nullary main_cst_9 (constant S_ .f32 0x3F800000#32),
    unary main_cst_9 main_v33 (broadcastInDim S8192x1024 ![] bcast_S_S8192x1024 : A F S_ .f32 → A F S8192x1024 .f32),
    binary main_v32 main_v33 main_v34 (Host.divf : A F S8192x1024 .f32 → A F S8192x1024 .f32 → A F S8192x1024 .f32),
    nullary main_cst_10 (constant S_ .f32 0x3F800000#32),
    unary main_cst_10 main_v35 (broadcastInDim S8192x1024 ![] bcast_S_S8192x1024 : A F S_ .f32 → A F S8192x1024 .f32),
    binary main_v35 main_v34 main_v36 (addf : A F S8192x1024 .f32 → A F S8192x1024 .f32 → A F S8192x1024 .f32),
    nullary main_cst_11 (constant S_ .f32 0x3F800000#32),
    unary main_cst_11 main_v37 (broadcastInDim S8192x1024 ![] bcast_S_S8192x1024 : A F S_ .f32 → A F S8192x1024 .f32),
    binary main_v36 main_v37 main_v38 (Host.powf : A F S8192x1024 .f32 → A F S8192x1024 .f32 → A F S8192x1024 .f32),
    nullary main_cst_12 (constant S_ .f32 0x3F800000#32),
    unary main_cst_12 main_v39 (broadcastInDim S8192x1024 ![] bcast_S_S8192x1024 : A F S_ .f32 → A F S8192x1024 .f32),
    binary main_v39 main_v38 main_v40 (Host.divf : A F S8192x1024 .f32 → A F S8192x1024 .f32 → A F S8192x1024 .f32),
    nullary main_cst_13 (constant S_ .f32 0x00000000#32),
    binary main_v40 main_cst_13 main_v41 ((fun x v => Host.reduceAdd x v reducesTo_S8192x1024_S8192_d1 h_S_) : A F S8192x1024 .f32 → A F S_ .f32 → A F S8192 .f32),
    unary main_v41 main_v42 (broadcastInDim S8192x1 ![0] bcast_S8192_S8192x1_0 : A F S8192 .f32 → A F S8192x1 .f32),
    unary main_v42 main_v43 (broadcastInDim S8192x1024 ![0, 1] bcast_S8192x1_S8192x1024_0_1 : A F S8192x1 .f32 → A F S8192x1024 .f32),
    binary main_v40 main_v43 main_v44 (Host.divf : A F S8192x1024 .f32 → A F S8192x1024 .f32 → A F S8192x1024 .f32) ]

/-- The buffers they write. -/
abbrev wSoft : List (Ref sig .tc) :=
  [main_cst_9, main_v33, main_v34, main_cst_10, main_v35, main_v36, main_cst_11, main_v37, main_v38, main_cst_12, main_v39, main_v40, main_cst_13, main_v41, main_v42, main_v43, main_v44]

/-- The operations that compute the sharpened target distribution. -/
def opsTarget : List (HloOp τ sig (Elt F)) :=
  [ binary main_v44 main_v44 main_v45 (mulf : A F S8192x1024 .f32 → A F S8192x1024 .f32 → A F S8192x1024 .f32),
    binary main_v44 main_v44 main_v46 (mulf : A F S8192x1024 .f32 → A F S8192x1024 .f32 → A F S8192x1024 .f32),
    nullary main_cst_14 (constant S_ .f32 0x00000000#32),
    binary main_v46 main_cst_14 main_v47 ((fun x v => Host.reduceAdd x v reducesTo_S8192x1024_S1024_d0 h_S_) : A F S8192x1024 .f32 → A F S_ .f32 → A F S1024 .f32),
    unary main_v47 main_v48 (broadcastInDim S1x1024 ![1] bcast_S1024_S1x1024_1 : A F S1024 .f32 → A F S1x1024 .f32),
    unary main_v48 main_v49 (broadcastInDim S8192x1024 ![0, 1] bcast_S1x1024_S8192x1024_0_1 : A F S1x1024 .f32 → A F S8192x1024 .f32),
    binary main_v45 main_v49 main_v50 (Host.divf : A F S8192x1024 .f32 → A F S8192x1024 .f32 → A F S8192x1024 .f32),
    nullary main_cst_15 (constant S_ .f32 0x00000000#32),
    binary main_v50 main_cst_15 main_v51 ((fun x v => Host.reduceAdd x v reducesTo_S8192x1024_S8192_d1 h_S_) : A F S8192x1024 .f32 → A F S_ .f32 → A F S8192 .f32),
    unary main_v51 main_v52 (broadcastInDim S8192x1 ![0] bcast_S8192_S8192x1_0 : A F S8192 .f32 → A F S8192x1 .f32),
    unary main_v52 main_v53 (broadcastInDim S8192x1024 ![0, 1] bcast_S8192x1_S8192x1024_0_1 : A F S8192x1 .f32 → A F S8192x1024 .f32),
    binary main_v50 main_v53 main_v54 (Host.divf : A F S8192x1024 .f32 → A F S8192x1024 .f32 → A F S8192x1024 .f32) ]

/-- The buffers they write. -/
abbrev wTarget : List (Ref sig .tc) :=
  [main_v45, main_v46, main_cst_14, main_v47, main_v48, main_v49, main_v50, main_cst_15, main_v51, main_v52, main_v53, main_v54]

/-- The least entry of each row, by a fold that starts at the given pair. -/
def leastOf (x : A F S8192x1024 .f32) (y : A F S8192x1024 .i32) (u : A F S_ .f32) (v : A F S_ .i32) : A F S8192 .f32 := fun j =>
  (Host.argReduce reducer_argmin_f32_i32 x y u v reducesTo_S8192x1024_S8192_d1 h_S_ j).1

/-- The label of the least entry of each row, by the same fold. -/
def nearestOf (x : A F S8192x1024 .f32) (y : A F S8192x1024 .i32) (u : A F S_ .f32) (v : A F S_ .i32) : A F S8192 .i32 := fun j =>
  (Host.argReduce reducer_argmin_f32_i32 x y u v reducesTo_S8192x1024_S8192_d1 h_S_ j).2

/-- The operations that compute the nearest node of each sample. -/
def opsBest : List (HloOp τ sig (Elt F)) :=
  [ nullary main_call2_v0 (iotaInDim S8192x1024 32 1),
    nullary main_call2_cst (constant S_ .f32 0x7F800000#32),
    nullary main_call2_c (constantI S_ 32 0#32),
    quaternary main_v32 main_call2_v0 main_call2_cst main_call2_c main_call2_v1_0 (leastOf : A F S8192x1024 .f32 → A F S8192x1024 .i32 → A F S_ .f32 → A F S_ .i32 → A F S8192 .f32),
    quaternary main_v32 main_call2_v0 main_call2_cst main_call2_c main_v55 (nearestOf : A F S8192x1024 .f32 → A F S8192x1024 .i32 → A F S_ .f32 → A F S_ .i32 → A F S8192 .i32),
    reshape main_v55 main_v56 (rfl : (.i32 : EltTy) = .i32) shapeCasts_S8192_S16x512 ]

/-- The buffers they write. -/
abbrev wBest : List (Ref sig .tc) :=
  [main_call2_v0, main_call2_cst, main_call2_c, main_call2_v1_0, main_v55, main_v56]

/-- The operations that compute the Kullback-Leibler loss. -/
def opsKl : List (HloOp τ sig (Elt F)) :=
  [ unary main_v54 main_v57 (Host.log : A F S8192x1024 .f32 → A F S8192x1024 .f32),
    unary main_v44 main_v58 (Host.log : A F S8192x1024 .f32 → A F S8192x1024 .f32),
    binary main_v57 main_v58 main_v59 (subf : A F S8192x1024 .f32 → A F S8192x1024 .f32 → A F S8192x1024 .f32),
    binary main_v54 main_v59 main_v60 (mulf : A F S8192x1024 .f32 → A F S8192x1024 .f32 → A F S8192x1024 .f32),
    nullary main_cst_16 (constant S_ .f32 0x00000000#32),
    binary main_v60 main_cst_16 main_v61 ((fun x v => Host.reduceAdd x v reducesTo_S8192x1024_S_d0_1 h_S_) : A F S8192x1024 .f32 → A F S_ .f32 → A F S_ .f32),
    nullary main_cst_17 (constant S_ .f32 0x46000000#32),
    binary main_v61 main_cst_17 main_v62 (Host.divf : A F S_ .f32 → A F S_ .f32 → A F S_ .f32) ]

/-- The buffers they write. -/
abbrev wKl : List (Ref sig .tc) :=
  [main_v57, main_v58, main_v59, main_v60, main_cst_16, main_v61, main_cst_17, main_v62]

/-- The operations that compute the diversity loss. -/
def opsDiv : List (HloOp τ sig (Elt F)) :=
  [ binary main_v11 main_v11 main_v63 (mulf : A F S1024x256 .f32 → A F S1024x256 .f32 → A F S1024x256 .f32),
    nullary main_cst_18 (constant S_ .f32 0x00000000#32),
    binary main_v63 main_cst_18 main_v64 ((fun x v => Host.reduceAdd x v reducesTo_S1024x256_S1024_d1 h_S_) : A F S1024x256 .f32 → A F S_ .f32 → A F S1024 .f32),
    unary main_v64 main_v65 (broadcastInDim S1024x1 ![0] bcast_S1024_S1024x1_0 : A F S1024 .f32 → A F S1024x1 .f32),
    binary main_v11 main_v11 main_v66 (mulf : A F S1024x256 .f32 → A F S1024x256 .f32 → A F S1024x256 .f32),
    nullary main_cst_19 (constant S_ .f32 0x00000000#32),
    binary main_v66 main_cst_19 main_v67 ((fun x v => Host.reduceAdd x v reducesTo_S1024x256_S1024_d1 h_S_) : A F S1024x256 .f32 → A F S_ .f32 → A F S1024 .f32),
    unary main_v67 main_v68 (broadcastInDim S1x1024 ![1] bcast_S1024_S1x1024_1 : A F S1024 .f32 → A F S1x1024 .f32),
    unary main_v65 main_v69 (broadcastInDim S1024x1024 ![0, 1] bcast_S1024x1_S1024x1024_0_1 : A F S1024x1 .f32 → A F S1024x1024 .f32),
    unary main_v68 main_v70 (broadcastInDim S1024x1024 ![0, 1] bcast_S1x1024_S1024x1024_0_1 : A F S1x1024 .f32 → A F S1024x1024 .f32),
    binary main_v69 main_v70 main_v71 (addf : A F S1024x1024 .f32 → A F S1024x1024 .f32 → A F S1024x1024 .f32),
    unary main_v11 main_v72 ((transpose S256x1024 [1, 0] · transposes_S1024x256_S256x1024_1_0) : A F S1024x256 .f32 → A F S256x1024 .f32),
    binary main_v11 main_v72 main_v73 ((fun l r => Host.dotGeneral dot_S1024x256_S256x1024_S1024x1024_1_0_0_1_n_n none l r) : A F S1024x256 .f32 → A F S256x1024 .f32 → A F S1024x1024 .f32),
    nullary main_cst_20 (constant S_ .f32 0x40000000#32),
    unary main_cst_20 main_v74 (broadcastInDim S1024x1024 ![] bcast_S_S1024x1024 : A F S_ .f32 → A F S1024x1024 .f32),
    binary main_v74 main_v73 main_v75 (mulf : A F S1024x1024 .f32 → A F S1024x1024 .f32 → A F S1024x1024 .f32),
    binary main_v71 main_v75 main_v76 (subf : A F S1024x1024 .f32 → A F S1024x1024 .f32 → A F S1024x1024 .f32),
    nullary main_cst_21 (constant S_ .f32 0x00000000#32),
    unary main_cst_21 main_v77 (broadcastInDim S1024x1024 ![] bcast_S_S1024x1024 : A F S_ .f32 → A F S1024x1024 .f32),
    binary main_v76 main_v77 main_v78 (maximumf : A F S1024x1024 .f32 → A F S1024x1024 .f32 → A F S1024x1024 .f32),
    nullary main_cst_22 (constant S_ .f32 0x00000000#32),
    unary main_cst_22 main_v79 (broadcastInDim S1024x1024 ![] bcast_S_S1024x1024 : A F S_ .f32 → A F S1024x1024 .f32),
    binary main_v78 main_v79 main_v80 (cmpf .ogt : A F S1024x1024 .f32 → A F S1024x1024 .f32 → A F S1024x1024 .i1),
    nullary main_cst_23 (constant S_ .f32 0x3F800000#32),
    unary main_cst_23 main_call3_v0 (id : A F S_ .f32 → A F S_ .f32),
    unary main_call3_v0 main_call3_v1 (broadcastInDim S1024x1024 ![] bcast_S_S1024x1024 : A F S_ .f32 → A F S1024x1024 .f32),
    ternary main_v80 main_v78 main_call3_v1 main_v81 (select : A F S1024x1024 .i1 → A F S1024x1024 .f32 → A F S1024x1024 .f32 → A F S1024x1024 .f32),
    unary main_v81 main_v82 (Host.sqrt : A F S1024x1024 .f32 → A F S1024x1024 .f32),
    nullary main_cst_24 (constant S_ .f32 0x00000000#32),
    unary main_cst_24 main_call4_v0 (id : A F S_ .f32 → A F S_ .f32),
    unary main_call4_v0 main_call4_v1 (broadcastInDim S1024x1024 ![] bcast_S_S1024x1024 : A F S_ .f32 → A F S1024x1024 .f32),
    ternary main_v80 main_v82 main_call4_v1 main_v83 (select : A F S1024x1024 .i1 → A F S1024x1024 .f32 → A F S1024x1024 .f32 → A F S1024x1024 .f32),
    nullary main_cst_25 (constant S_ .f32 0x00000000#32),
    binary main_v83 main_cst_25 main_v84 ((fun x v => Host.reduceAdd x v reducesTo_S1024x1024_S_d0_1 h_S_) : A F S1024x1024 .f32 → A F S_ .f32 → A F S_ .f32),
    nullary main_cst_26 (constant S_ .f32 0x49800000#32),
    binary main_v84 main_cst_26 main_v85 (Host.divf : A F S_ .f32 → A F S_ .f32 → A F S_ .f32),
    unary main_v85 main_v86 (Host.negf : A F S_ .f32 → A F S_ .f32) ]

/-- The buffers they write. -/
abbrev wDiv : List (Ref sig .tc) :=
  [main_v63, main_cst_18, main_v64, main_v65, main_v66, main_cst_19, main_v67, main_v68, main_v69, main_v70, main_v71, main_v72, main_v73, main_cst_20, main_v74, main_v75, main_v76, main_cst_21, main_v77, main_v78, main_cst_22, main_v79, main_v80, main_cst_23, main_call3_v0, main_call3_v1, main_v81, main_v82, main_cst_24, main_call4_v0, main_call4_v1, main_v83, main_cst_25, main_v84, main_cst_26, main_v85, main_v86]

/-- The operations that compute the squared differences of consecutive samples. -/
def opsStep : List (HloOp τ sig (Elt F)) :=
  [ unary main_arg0 main_v87 ((extractStridedSlice S16x511x256 ![0, 0, 0] · slices_S16x512x256_S16x511x256_0_0_0) : A F S16x512x256 .f32 → A F S16x511x256 .f32),
    unary main_arg0 main_v88 ((extractStridedSlice S16x511x256 ![0, 1, 0] · slices_S16x512x256_S16x511x256_0_1_0) : A F S16x512x256 .f32 → A F S16x511x256 .f32),
    binary main_v88 main_v87 main_v89 (subf : A F S16x511x256 .f32 → A F S16x511x256 .f32 → A F S16x511x256 .f32),
    binary main_v89 main_v89 main_v90 (mulf : A F S16x511x256 .f32 → A F S16x511x256 .f32 → A F S16x511x256 .f32),
    nullary main_cst_27 (constant S_ .f32 0x00000000#32) ]

/-- The buffers they write. -/
abbrev wStep : List (Ref sig .tc) :=
  [main_v87, main_v88, main_v89, main_v90, main_cst_27]

/-- The operations that compute the time-smoothness loss. -/
def opsSmooth : List (HloOp τ sig (Elt F)) :=
  [ binary main_v90 main_cst_27 main_v91 ((fun x v => Host.reduceAdd x v reducesTo_S16x511x256_S_d0_1_2 h_S_) : A F S16x511x256 .f32 → A F S_ .f32 → A F S_ .f32),
    nullary main_cst_28 (constant S_ .f32 0x49FF8000#32),
    binary main_v91 main_cst_28 main_v92 (Host.divf : A F S_ .f32 → A F S_ .f32 → A F S_ .f32),
    nullary main_cst_29 (constant S_ .f32 0x3F666666#32),
    binary main_v92 main_cst_29 main_v93 (mulf : A F S_ .f32 → A F S_ .f32 → A F S_ .f32) ]

/-- The buffers they write. -/
abbrev wSmooth : List (Ref sig .tc) :=
  [main_v91, main_cst_28, main_v92, main_cst_29, main_v93]

/-- The operations that compute the nearest nodes of consecutive samples. -/
def opsPairs : List (HloOp τ sig (Elt F)) :=
  [ unary main_v56 main_v94 ((extractStridedSlice S16x511 ![0, 0] · slices_S16x512_S16x511_0_0) : A F S16x512 .i32 → A F S16x511 .i32),
    unary main_v56 main_v95 ((extractStridedSlice S16x511 ![0, 1] · slices_S16x512_S16x511_0_1) : A F S16x512 .i32 → A F S16x511 .i32) ]

/-- The buffers they write. -/
abbrev wPairs : List (Ref sig .tc) :=
  [main_v94, main_v95]

/-- The operations that compute the grid row of the earlier node. -/
def opsRowPrev : List (HloOp τ sig (Elt F)) :=
  [ nullary main_c (constantI S_ 32 32#32),
    unary main_c main_call5_v0 (id : A F S_ .i32 → A F S_ .i32),
    unary main_call5_v0 main_call5_v1 (broadcastInDim S16x511 ![] bcast_S_S16x511 : A F S_ .i32 → A F S16x511 .i32),
    binary main_v94 main_call5_v1 main_call5_v2 (Host.divsi : A F S16x511 .i32 → A F S16x511 .i32 → A F S16x511 .i32),
    unary main_v94 main_call5_v3 (signi : A F S16x511 .i32 → A F S16x511 .i32),
    unary main_call5_v0 main_call5_v4 (signi : A F S_ .i32 → A F S_ .i32),
    unary main_call5_v4 main_call5_v5 (broadcastInDim S16x511 ![] bcast_S_S16x511 : A F S_ .i32 → A F S16x511 .i32),
    binary main_call5_v3 main_call5_v5 main_call5_v6 (cmpi .ne : A F S16x511 .i32 → A F S16x511 .i32 → A F S16x511 .i1),
    unary main_call5_v0 main_call5_v7 (broadcastInDim S16x511 ![] bcast_S_S16x511 : A F S_ .i32 → A F S16x511 .i32),
    binary main_v94 main_call5_v7 main_call5_v8 (Host.remsi : A F S16x511 .i32 → A F S16x511 .i32 → A F S16x511 .i32),
    nullary main_call5_c (constantI S_ 32 0#32),
    unary main_call5_c main_call5_v9 (broadcastInDim S16x511 ![] bcast_S_S16x511 : A F S_ .i32 → A F S16x511 .i32),
    binary main_call5_v8 main_call5_v9 main_call5_v10 (cmpi .ne : A F S16x511 .i32 → A F S16x511 .i32 → A F S16x511 .i1),
    binary main_call5_v6 main_call5_v10 main_call5_v11 (andi : A F S16x511 .i1 → A F S16x511 .i1 → A F S16x511 .i1),
    nullary main_call5_c_0 (constantI S_ 32 1#32),
    unary main_call5_c_0 main_call5_v12 (broadcastInDim S16x511 ![] bcast_S_S16x511 : A F S_ .i32 → A F S16x511 .i32),
    binary main_call5_v2 main_call5_v12 main_call5_v13 (subi : A F S16x511 .i32 → A F S16x511 .i32 → A F S16x511 .i32),
    ternary main_call5_v11 main_call5_v13 main_call5_v2 main_v96 (select : A F S16x511 .i1 → A F S16x511 .i32 → A F S16x511 .i32 → A F S16x511 .i32) ]

/-- The buffers they write. -/
abbrev wRowPrev : List (Ref sig .tc) :=
  [main_c, main_call5_v0, main_call5_v1, main_call5_v2, main_call5_v3, main_call5_v4, main_call5_v5, main_call5_v6, main_call5_v7, main_call5_v8, main_call5_c, main_call5_v9, main_call5_v10, main_call5_v11, main_call5_c_0, main_call5_v12, main_call5_v13, main_v96]

/-- The operations that compute the grid column of the earlier node. -/
def opsColPrev : List (HloOp τ sig (Elt F)) :=
  [ nullary main_c_30 (constantI S_ 32 32#32),
    unary main_c_30 main_call6_v0 (id : A F S_ .i32 → A F S_ .i32),
    nullary main_call6_c (constantI S_ 32 0#32),
    binary main_call6_v0 main_call6_c main_call6_v1 (cmpi .eq : A F S_ .i32 → A F S_ .i32 → A F S_ .i1),
    nullary main_call6_c_0 (constantI S_ 32 1#32),
    ternary main_call6_v1 main_call6_c_0 main_call6_v0 main_call6_v2 (select : A F S_ .i1 → A F S_ .i32 → A F S_ .i32 → A F S_ .i32),
    unary main_call6_v2 main_call6_v3 (broadcastInDim S16x511 ![] bcast_S_S16x511 : A F S_ .i32 → A F S16x511 .i32),
    binary main_v94 main_call6_v3 main_call6_v4 (Host.remsi : A F S16x511 .i32 → A F S16x511 .i32 → A F S16x511 .i32),
    nullary main_call6_c_1 (constantI S_ 32 0#32),
    unary main_call6_c_1 main_call6_v5 (broadcastInDim S16x511 ![] bcast_S_S16x511 : A F S_ .i32 → A F S16x511 .i32),
    binary main_call6_v4 main_call6_v5 main_call6_v6 (cmpi .ne : A F S16x511 .i32 → A F S16x511 .i32 → A F S16x511 .i1),
    nullary main_call6_c_2 (constantI S_ 32 0#32),
    unary main_call6_c_2 main_call6_v7 (broadcastInDim S16x511 ![] bcast_S_S16x511 : A F S_ .i32 → A F S16x511 .i32),
    binary main_call6_v4 main_call6_v7 main_call6_v8 (cmpi .slt : A F S16x511 .i32 → A F S16x511 .i32 → A F S16x511 .i1),
    nullary main_call6_c_3 (constantI S_ 32 0#32),
    binary main_call6_v2 main_call6_c_3 main_call6_v9 (cmpi .slt : A F S_ .i32 → A F S_ .i32 → A F S_ .i1),
    unary main_call6_v9 main_call6_v10 (broadcastInDim S16x511 ![] bcast_S_S16x511 : A F S_ .i1 → A F S16x511 .i1),
    binary main_call6_v8 main_call6_v10 main_call6_v11 (cmpi .ne : A F S16x511 .i1 → A F S16x511 .i1 → A F S16x511 .i1),
    binary main_call6_v11 main_call6_v6 main_call6_v12 (andi : A F S16x511 .i1 → A F S16x511 .i1 → A F S16x511 .i1),
    unary main_call6_v2 main_call6_v13 (broadcastInDim S16x511 ![] bcast_S_S16x511 : A F S_ .i32 → A F S16x511 .i32),
    binary main_call6_v4 main_call6_v13 main_call6_v14 (addi : A F S16x511 .i32 → A F S16x511 .i32 → A F S16x511 .i32),
    ternary main_call6_v12 main_call6_v14 main_call6_v4 main_v97 (select : A F S16x511 .i1 → A F S16x511 .i32 → A F S16x511 .i32 → A F S16x511 .i32) ]

/-- The buffers they write. -/
abbrev wColPrev : List (Ref sig .tc) :=
  [main_c_30, main_call6_v0, main_call6_c, main_call6_v1, main_call6_c_0, main_call6_v2, main_call6_v3, main_call6_v4, main_call6_c_1, main_call6_v5, main_call6_v6, main_call6_c_2, main_call6_v7, main_call6_v8, main_call6_c_3, main_call6_v9, main_call6_v10, main_call6_v11, main_call6_v12, main_call6_v13, main_call6_v14, main_v97]

/-- The operations that compute the grid row of the later node. -/
def opsRowNext : List (HloOp τ sig (Elt F)) :=
  [ nullary main_c_31 (constantI S_ 32 32#32),
    unary main_c_31 main_call7_v0 (id : A F S_ .i32 → A F S_ .i32),
    unary main_call7_v0 main_call7_v1 (broadcastInDim S16x511 ![] bcast_S_S16x511 : A F S_ .i32 → A F S16x511 .i32),
    binary main_v95 main_call7_v1 main_call7_v2 (Host.divsi : A F S16x511 .i32 → A F S16x511 .i32 → A F S16x511 .i32),
    unary main_v95 main_call7_v3 (signi : A F S16x511 .i32 → A F S16x511 .i32),
    unary main_call7_v0 main_call7_v4 (signi : A F S_ .i32 → A F S_ .i32),
    unary main_call7_v4 main_call7_v5 (broadcastInDim S16x511 ![] bcast_S_S16x511 : A F S_ .i32 → A F S16x511 .i32),
    binary main_call7_v3 main_call7_v5 main_call7_v6 (cmpi .ne : A F S16x511 .i32 → A F S16x511 .i32 → A F S16x511 .i1),
    unary main_call7_v0 main_call7_v7 (broadcastInDim S16x511 ![] bcast_S_S16x511 : A F S_ .i32 → A F S16x511 .i32),
    binary main_v95 main_call7_v7 main_call7_v8 (Host.remsi : A F S16x511 .i32 → A F S16x511 .i32 → A F S16x511 .i32),
    nullary main_call7_c (constantI S_ 32 0#32),
    unary main_call7_c main_call7_v9 (broadcastInDim S16x511 ![] bcast_S_S16x511 : A F S_ .i32 → A F S16x511 .i32),
    binary main_call7_v8 main_call7_v9 main_call7_v10 (cmpi .ne : A F S16x511 .i32 → A F S16x511 .i32 → A F S16x511 .i1),
    binary main_call7_v6 main_call7_v10 main_call7_v11 (andi : A F S16x511 .i1 → A F S16x511 .i1 → A F S16x511 .i1),
    nullary main_call7_c_0 (constantI S_ 32 1#32),
    unary main_call7_c_0 main_call7_v12 (broadcastInDim S16x511 ![] bcast_S_S16x511 : A F S_ .i32 → A F S16x511 .i32),
    binary main_call7_v2 main_call7_v12 main_call7_v13 (subi : A F S16x511 .i32 → A F S16x511 .i32 → A F S16x511 .i32),
    ternary main_call7_v11 main_call7_v13 main_call7_v2 main_v98 (select : A F S16x511 .i1 → A F S16x511 .i32 → A F S16x511 .i32 → A F S16x511 .i32) ]

/-- The buffers they write. -/
abbrev wRowNext : List (Ref sig .tc) :=
  [main_c_31, main_call7_v0, main_call7_v1, main_call7_v2, main_call7_v3, main_call7_v4, main_call7_v5, main_call7_v6, main_call7_v7, main_call7_v8, main_call7_c, main_call7_v9, main_call7_v10, main_call7_v11, main_call7_c_0, main_call7_v12, main_call7_v13, main_v98]

/-- The operations that compute the grid column of the later node. -/
def opsColNext : List (HloOp τ sig (Elt F)) :=
  [ nullary main_c_32 (constantI S_ 32 32#32),
    unary main_c_32 main_call8_v0 (id : A F S_ .i32 → A F S_ .i32),
    nullary main_call8_c (constantI S_ 32 0#32),
    binary main_call8_v0 main_call8_c main_call8_v1 (cmpi .eq : A F S_ .i32 → A F S_ .i32 → A F S_ .i1),
    nullary main_call8_c_0 (constantI S_ 32 1#32),
    ternary main_call8_v1 main_call8_c_0 main_call8_v0 main_call8_v2 (select : A F S_ .i1 → A F S_ .i32 → A F S_ .i32 → A F S_ .i32),
    unary main_call8_v2 main_call8_v3 (broadcastInDim S16x511 ![] bcast_S_S16x511 : A F S_ .i32 → A F S16x511 .i32),
    binary main_v95 main_call8_v3 main_call8_v4 (Host.remsi : A F S16x511 .i32 → A F S16x511 .i32 → A F S16x511 .i32),
    nullary main_call8_c_1 (constantI S_ 32 0#32),
    unary main_call8_c_1 main_call8_v5 (broadcastInDim S16x511 ![] bcast_S_S16x511 : A F S_ .i32 → A F S16x511 .i32),
    binary main_call8_v4 main_call8_v5 main_call8_v6 (cmpi .ne : A F S16x511 .i32 → A F S16x511 .i32 → A F S16x511 .i1),
    nullary main_call8_c_2 (constantI S_ 32 0#32),
    unary main_call8_c_2 main_call8_v7 (broadcastInDim S16x511 ![] bcast_S_S16x511 : A F S_ .i32 → A F S16x511 .i32),
    binary main_call8_v4 main_call8_v7 main_call8_v8 (cmpi .slt : A F S16x511 .i32 → A F S16x511 .i32 → A F S16x511 .i1),
    nullary main_call8_c_3 (constantI S_ 32 0#32),
    binary main_call8_v2 main_call8_c_3 main_call8_v9 (cmpi .slt : A F S_ .i32 → A F S_ .i32 → A F S_ .i1),
    unary main_call8_v9 main_call8_v10 (broadcastInDim S16x511 ![] bcast_S_S16x511 : A F S_ .i1 → A F S16x511 .i1),
    binary main_call8_v8 main_call8_v10 main_call8_v11 (cmpi .ne : A F S16x511 .i1 → A F S16x511 .i1 → A F S16x511 .i1),
    binary main_call8_v11 main_call8_v6 main_call8_v12 (andi : A F S16x511 .i1 → A F S16x511 .i1 → A F S16x511 .i1),
    unary main_call8_v2 main_call8_v13 (broadcastInDim S16x511 ![] bcast_S_S16x511 : A F S_ .i32 → A F S16x511 .i32),
    binary main_call8_v4 main_call8_v13 main_call8_v14 (addi : A F S16x511 .i32 → A F S16x511 .i32 → A F S16x511 .i32),
    ternary main_call8_v12 main_call8_v14 main_call8_v4 main_v99 (select : A F S16x511 .i1 → A F S16x511 .i32 → A F S16x511 .i32 → A F S16x511 .i32) ]

/-- The buffers they write. -/
abbrev wColNext : List (Ref sig .tc) :=
  [main_c_32, main_call8_v0, main_call8_c, main_call8_v1, main_call8_c_0, main_call8_v2, main_call8_v3, main_call8_v4, main_call8_c_1, main_call8_v5, main_call8_v6, main_call8_c_2, main_call8_v7, main_call8_v8, main_call8_c_3, main_call8_v9, main_call8_v10, main_call8_v11, main_call8_v12, main_call8_v13, main_call8_v14, main_v99]

/-- The operations that compute the neighbourhood loss. -/
def opsNear : List (HloOp τ sig (Elt F)) :=
  [ binary main_v96 main_v98 main_v100 (subi : A F S16x511 .i32 → A F S16x511 .i32 → A F S16x511 .i32),
    unary main_v100 main_v101 (absi : A F S16x511 .i32 → A F S16x511 .i32),
    binary main_v97 main_v99 main_v102 (subi : A F S16x511 .i32 → A F S16x511 .i32 → A F S16x511 .i32),
    unary main_v102 main_v103 (absi : A F S16x511 .i32 → A F S16x511 .i32),
    binary main_v101 main_v103 main_v104 (addi : A F S16x511 .i32 → A F S16x511 .i32 → A F S16x511 .i32),
    unary main_v104 main_v105 (sitofp .f32 : A F S16x511 .i32 → A F S16x511 .f32),
    nullary main_cst_33 (constant S_ .f32 0x00000000#32),
    binary main_v105 main_cst_33 main_v106 ((fun x v => Host.reduceAdd x v reducesTo_S16x511_S16_d1 h_S_) : A F S16x511 .f32 → A F S_ .f32 → A F S16 .f32),
    nullary main_cst_34 (constant S_ .f32 0x43FF8000#32),
    unary main_cst_34 main_v107 (broadcastInDim S16 ![] bcast_S_S16 : A F S_ .f32 → A F S16 .f32),
    binary main_v106 main_v107 main_v108 (Host.divf : A F S16 .f32 → A F S16 .f32 → A F S16 .f32),
    nullary main_cst_35 (constant S_ .f32 0x00000000#32),
    binary main_v108 main_cst_35 main_v109 ((fun x v => Host.reduceAdd x v reducesTo_S16_S_d0 h_S_) : A F S16 .f32 → A F S_ .f32 → A F S_ .f32),
    nullary main_cst_36 (constant S_ .f32 0x41800000#32),
    binary main_v109 main_cst_36 main_v110 (Host.divf : A F S_ .f32 → A F S_ .f32 → A F S_ .f32) ]

/-- The buffers they write. -/
abbrev wNear : List (Ref sig .tc) :=
  [main_v100, main_v101, main_v102, main_v103, main_v104, main_v105, main_cst_33, main_v106, main_cst_34, main_v107, main_v108, main_cst_35, main_v109, main_cst_36, main_v110]

/-- The operations that compute the total loss. -/
def opsTotal : List (HloOp τ sig (Elt F)) :=
  [ nullary main_cst_37 (constant S_ .f32 0x3F000000#32),
    binary main_cst_37 main_v86 main_v111 (mulf : A F S_ .f32 → A F S_ .f32 → A F S_ .f32),
    binary main_v62 main_v111 main_v112 (addf : A F S_ .f32 → A F S_ .f32 → A F S_ .f32),
    nullary main_cst_38 (constant S_ .f32 0x3E99999A#32),
    binary main_cst_38 main_v93 main_v113 (mulf : A F S_ .f32 → A F S_ .f32 → A F S_ .f32),
    binary main_v112 main_v113 main_v114 (addf : A F S_ .f32 → A F S_ .f32 → A F S_ .f32),
    nullary main_cst_39 (constant S_ .f32 0x3E4CCCCD#32),
    binary main_cst_39 main_v110 main_v115 (mulf : A F S_ .f32 → A F S_ .f32 → A F S_ .f32),
    binary main_v114 main_v115 main_v116 (addf : A F S_ .f32 → A F S_ .f32 → A F S_ .f32) ]

/-- The buffers they write. -/
abbrev wTotal : List (Ref sig .tc) :=
  [main_cst_37, main_v111, main_v112, main_cst_38, main_v113, main_v114, main_cst_39, main_v115, main_v116]

/-- The operations that compute the nearest nodes, gathered. -/
def opsTake : List (HloOp τ sig (Elt F)) :=
  [ reshape main_v56 main_v117 (rfl : (.i32 : EltTy) = .i32) shapeCasts_S16x512_S8192,
    nullary main_call9_c (constantI S_ 32 0#32),
    unary main_call9_c main_call9_v0 (broadcastInDim S8192 ![] bcast_S_S8192 : A F S_ .i32 → A F S8192 .i32),
    binary main_v117 main_call9_v0 main_call9_v1 (cmpi .slt : A F S8192 .i32 → A F S8192 .i32 → A F S8192 .i1),
    nullary main_call9_c_0 (constantI S_ 32 1024#32),
    unary main_call9_c_0 main_call9_v2 (broadcastInDim S8192 ![] bcast_S_S8192 : A F S_ .i32 → A F S8192 .i32),
    binary main_v117 main_call9_v2 main_call9_v3 (addi : A F S8192 .i32 → A F S8192 .i32 → A F S8192 .i32),
    ternary main_call9_v1 main_call9_v3 main_v117 main_call9_v4 (select : A F S8192 .i1 → A F S8192 .i32 → A F S8192 .i32 → A F S8192 .i32),
    unary main_call9_v4 main_call9_v5 (broadcastInDim S8192x1 ![0] bcast_S8192_S8192x1_0 : A F S8192 .i32 → A F S8192x1 .i32),
    nullary main_call9_c_1 (constantI S1 32 1023#32),
    nullary main_call9_c_2 (constantI S_ 32 0#32),
    unary main_call9_c_2 main_call9_v6 (broadcastInDim S8192x1 ![] bcast_S_S8192x1 : A F S_ .i32 → A F S8192x1 .i32),
    binary main_call9_v5 main_call9_v6 main_call9_v7 (cmpi .sge : A F S8192x1 .i32 → A F S8192x1 .i32 → A F S8192x1 .i1),
    unary main_call9_c_1 main_call9_v8 (broadcastInDim S1x1 ![1] bcast_S1_S1x1_1 : A F S1 .i32 → A F S1x1 .i32),
    unary main_call9_v8 main_call9_v9 (broadcastInDim S8192x1 ![0, 1] bcast_S1x1_S8192x1_0_1 : A F S1x1 .i32 → A F S8192x1 .i32),
    binary main_call9_v5 main_call9_v9 main_call9_v10 (cmpi .sle : A F S8192x1 .i32 → A F S8192x1 .i32 → A F S8192x1 .i1),
    binary main_call9_v7 main_call9_v10 main_call9_v11 (andi : A F S8192x1 .i1 → A F S8192x1 .i1 → A F S8192x1 .i1),
    nullary main_call9_c_3 (constantI S_ 1 1#1),
    binary main_call9_v11 main_call9_c_3 main_call9_v12 ((fun x v => Host.reduce IntOp.andi x v reducesTo_S8192x1_S8192_d1 h_S_) : A F S8192x1 .i1 → A F S_ .i1 → A F S8192 .i1),
    binary main_v11 main_call9_v5 main_call9_v13 ((fun x i => Host.gather gather_S1024x256_S8192x1_S8192x256_1_0_n_n_0_1_1256 x i) : A F S1024x256 .f32 → A F S8192x1 .i32 → A F S8192x256 .f32),
    unary main_call9_v12 main_call9_v14 (broadcastInDim S8192x256 ![0] bcast_S8192_S8192x256_0 : A F S8192 .i1 → A F S8192x256 .i1),
    nullary main_call9_cst (constant S_ .f32 0x7FC00000#32),
    unary main_call9_cst main_call9_v15 (broadcastInDim S8192x256 ![] bcast_S_S8192x256 : A F S_ .f32 → A F S8192x256 .f32),
    ternary main_call9_v14 main_call9_v13 main_call9_v15 main_v118 (select : A F S8192x256 .i1 → A F S8192x256 .f32 → A F S8192x256 .f32 → A F S8192x256 .f32) ]

/-- The buffers they write. -/
abbrev wTake : List (Ref sig .tc) :=
  [main_v117, main_call9_c, main_call9_v0, main_call9_v1, main_call9_c_0, main_call9_v2, main_call9_v3, main_call9_v4, main_call9_v5, main_call9_c_1, main_call9_c_2, main_call9_v6, main_call9_v7, main_call9_v8, main_call9_v9, main_call9_v10, main_call9_v11, main_call9_c_3, main_call9_v12, main_call9_v13, main_call9_v14, main_call9_cst, main_call9_v15, main_v118]

/-- The operations that compute the samples moved towards their nodes. -/
def opsSom : List (HloOp τ sig (Elt F)) :=
  [ reshape main_v118 main_v119 (rfl : (.f32 : EltTy) = .f32) shapeCasts_S8192x256_S16x512x256,
    binary main_v119 main_arg0 main_v120 (subf : A F S16x512x256 .f32 → A F S16x512x256 .f32 → A F S16x512x256 .f32),
    nullary main_cst_40 (constant S_ .f32 0x3DCCCCCD#32),
    unary main_cst_40 main_v121 (broadcastInDim S16x512x256 ![] bcast_S_S16x512x256 : A F S_ .f32 → A F S16x512x256 .f32),
    binary main_v121 main_v120 main_v122 (mulf : A F S16x512x256 .f32 → A F S16x512x256 .f32 → A F S16x512x256 .f32),
    binary main_arg0 main_v122 main_v123 (addf : A F S16x512x256 .f32 → A F S16x512x256 .f32 → A F S16x512x256 .f32) ]

/-- The buffers they write. -/
abbrev wSom : List (Ref sig .tc) :=
  [main_v119, main_v120, main_cst_40, main_v121, main_v122, main_v123]

/-- The operations of the program's part 0. -/
def part0 : List (HloOp τ sig (Elt F)) :=
  opsWeights ++ (opsInputs ++ (opsDist ++ (opsSoft)))

/-- The operations of the program's part 1. -/
def part1 : List (HloOp τ sig (Elt F)) :=
  opsTarget ++ (opsBest ++ (opsKl ++ (opsDiv ++ (opsStep))))

/-- The operations of the program's part 2. -/
def part2 : List (HloOp τ sig (Elt F)) :=
  opsSmooth ++ (opsPairs ++ (opsRowPrev ++ (opsColPrev ++ (opsRowNext ++ (opsColNext ++ (opsNear ++ (opsTotal ++ (opsTake ++ (opsSom)))))))))

/-- All the operations. -/
abbrev ops : List (HloOp τ sig (Elt F)) := part0 ++ (part1 ++ part2)

set_option maxRecDepth 16384 in
set_option maxHeartbeats 4000000 in
theorem main_part0_eq (c : Dev nD) : main_part0 (F := F) c = seq part0 := rfl

set_option maxRecDepth 16384 in
set_option maxHeartbeats 4000000 in
theorem main_part1_eq (c : Dev nD) : main_part1 (F := F) c = seq part1 := rfl

set_option maxRecDepth 16384 in
set_option maxHeartbeats 4000000 in
theorem main_part2_eq (c : Dev nD) : main_part2 (F := F) c = seq part2 := rfl

/-- The program runs the operations in order. -/
theorem main_eq (c : Dev nD) : main (F := F) c = seq ops := by
  simp only [ops, seq_append, ← main_part0_eq c, ← main_part1_eq c, ← main_part2_eq c]
  rfl

end Cert.ReferenceIdeal.Steps

end
-- ==== Proof.RefRead.lean ====
/- What the reference program computes: each step of the mathematics as a function of the arrays it reads, the program's
   buffers after its operations, and the run, which ends with the results at these functions of the two arguments. -/
module

public import proofs.«01_k».proof.Proof.RefOps

@[expose] public section

set_option maxRecDepth 16384
set_option Elab.async false

noncomputable section

namespace Cert.ReferenceIdeal.Steps

open Cert.ReferenceIdeal Cert.ReferenceIdeal.Gen Idealize.ShloMosaic Idealize.ShloMosaic.TcCoe Idealize.SL.Sem Idealize.ShloMosaic.StableHlo

variable {F : FTy → Type} [FloatOps F]

/-! ## The steps as functions -/

/-- The decay weight of each time step. -/
def weights : A F S512 .f32 :=
  Host.powf (broadcastInDim S512 ![] bcast_S_S512 (constant S_ .f32 0x3F666666#32))
    (subf (subf (broadcastInDim S512 ![] bcast_S_S512 (constant S_ .f32 0x44000000#32)) (sitofp .f32 (iotaInDim S512 32 0)))
      (broadcastInDim S512 ![] bcast_S_S512 (constant S_ .f32 0x3F800000#32)))

/-- The weighted samples, one row each. -/
def samples (z : A F S16x512x256 .f32) (w : A F S512 .f32) : A F S8192x256 .f32 :=
  shapeCast _ (mulf z (broadcastInDim S16x512x256 ![0, 1, 2] bcast_S1x512x1_S16x512x256_0_1_2
    (shapeCast S1x512x1 w shapeCasts_S512_S1x512x1))) shapeCasts_S16x512x256_S8192x256

/-- The codebook, one node a row. -/
def codebook (n : A F S32x32x256 .f32) : A F S1024x256 .f32 := shapeCast _ n shapeCasts_S32x32x256_S1024x256

/-- The squared distances of samples and nodes, cut off below at zero. -/
def sqDist (x : A F S8192x256 .f32) (y : A F S1024x256 .f32) : A F S8192x1024 .f32 :=
  maximumf (subf (addf
      (broadcastInDim S8192x1024 ![0, 1] bcast_S8192x1_S8192x1024_0_1 (broadcastInDim S8192x1 ![0] bcast_S8192_S8192x1_0
        (Host.reduceAdd (mulf x x) (constant S_ .f32 0x00000000#32) reducesTo_S8192x256_S8192_d1 h_S_)))
      (broadcastInDim S8192x1024 ![0, 1] bcast_S1x1024_S8192x1024_0_1 (broadcastInDim S1x1024 ![1] bcast_S1024_S1x1024_1
        (Host.reduceAdd (mulf y y) (constant S_ .f32 0x00000000#32) reducesTo_S1024x256_S1024_d1 h_S_))))
      (mulf (broadcastInDim S8192x1024 ![] bcast_S_S8192x1024 (constant S_ .f32 0x40000000#32))
        (Host.dotGeneral dot_S8192x256_S256x1024_S8192x1024_1_0_0_1_n_n none x
          (transpose S256x1024 [1, 0] y transposes_S1024x256_S256x1024_1_0))))
    (broadcastInDim S8192x1024 ![] bcast_S_S8192x1024 (constant S_ .f32 0x00000000#32))

/-- The root of a matrix where it is positive, zero elsewhere. -/
def root (s : A F S8192x1024 .f32) : A F S8192x1024 .f32 :=
  select (cmpf .ogt s (broadcastInDim S8192x1024 ![] bcast_S_S8192x1024 (constant S_ .f32 0x00000000#32)))
    (Host.sqrt (select (cmpf .ogt s (broadcastInDim S8192x1024 ![] bcast_S_S8192x1024 (constant S_ .f32 0x00000000#32))) s
      (broadcastInDim S8192x1024 ![] bcast_S_S8192x1024 (constant S_ .f32 0x3F800000#32))))
    (broadcastInDim S8192x1024 ![] bcast_S_S8192x1024 (constant S_ .f32 0x00000000#32))

/-- The unnormalised assignments, one over one plus the distance. -/
def student (d : A F S8192x1024 .f32) : A F S8192x1024 .f32 :=
  Host.divf (broadcastInDim S8192x1024 ![] bcast_S_S8192x1024 (constant S_ .f32 0x3F800000#32))
    (Host.powf (addf (broadcastInDim S8192x1024 ![] bcast_S_S8192x1024 (constant S_ .f32 0x3F800000#32))
        (Host.divf d (broadcastInDim S8192x1024 ![] bcast_S_S8192x1024 (constant S_ .f32 0x3F800000#32))))
      (broadcastInDim S8192x1024 ![] bcast_S_S8192x1024 (constant S_ .f32 0x3F800000#32)))

/-- A matrix with each row divided by its sum. -/
def byRow (a : A F S8192x1024 .f32) : A F S8192x1024 .f32 :=
  Host.divf a (broadcastInDim S8192x1024 ![0, 1] bcast_S8192x1_S8192x1024_0_1 (broadcastInDim S8192x1 ![0] bcast_S8192_S8192x1_0
    (Host.reduceAdd a (constant S_ .f32 0x00000000#32) reducesTo_S8192x1024_S8192_d1 h_S_)))

/-- The squares of a matrix with each column divided by its sum. -/
def byColumn (q : A F S8192x1024 .f32) : A F S8192x1024 .f32 :=
  Host.divf (mulf q q) (broadcastInDim S8192x1024 ![0, 1] bcast_S1x1024_S8192x1024_0_1 (broadcastInDim S1x1024 ![1] bcast_S1024_S1x1024_1
    (Host.reduceAdd (mulf q q) (constant S_ .f32 0x00000000#32) reducesTo_S8192x1024_S1024_d0 h_S_)))

/-- The first column at which each row is least. -/
def nearest (d : A F S8192x1024 .f32) : A F S8192 .i32 :=
  nearestOf d (iotaInDim S8192x1024 32 1) (constant S_ .f32 0x7F800000#32) (constantI S_ 32 0#32)

/-- The nearest nodes, by sequence and time step. -/
def best (d : A F S8192x1024 .f32) : A F S16x512 .i32 := shapeCast _ (nearest d) shapeCasts_S8192_S16x512

/-- The Kullback-Leibler loss of the assignments to their target. -/
def kl (p q : A F S8192x1024 .f32) : A F S_ .f32 :=
  Host.divf (Host.reduceAdd (mulf p (subf (Host.log p) (Host.log q))) (constant S_ .f32 0x00000000#32) reducesTo_S8192x1024_S_d0_1 h_S_)
    (constant S_ .f32 0x46000000#32)

/-- The squared distances of the nodes to one another, cut off below at zero. -/
def sqGap (y : A F S1024x256 .f32) : A F S1024x1024 .f32 :=
  maximumf (subf (addf
      (broadcastInDim S1024x1024 ![0, 1] bcast_S1024x1_S1024x1024_0_1 (broadcastInDim S1024x1 ![0] bcast_S1024_S1024x1_0
        (Host.reduceAdd (mulf y y) (constant S_ .f32 0x00000000#32) reducesTo_S1024x256_S1024_d1 h_S_)))
      (broadcastInDim S1024x1024 ![0, 1] bcast_S1x1024_S1024x1024_0_1 (broadcastInDim S1x1024 ![1] bcast_S1024_S1x1024_1
        (Host.reduceAdd (mulf y y) (constant S_ .f32 0x00000000#32) reducesTo_S1024x256_S1024_d1 h_S_))))
      (mulf (broadcastInDim S1024x1024 ![] bcast_S_S1024x1024 (constant S_ .f32 0x40000000#32))
        (Host.dotGeneral dot_S1024x256_S256x1024_S1024x1024_1_0_0_1_n_n none y
          (transpose S256x1024 [1, 0] y transposes_S1024x256_S256x1024_1_0))))
    (broadcastInDim S1024x1024 ![] bcast_S_S1024x1024 (constant S_ .f32 0x00000000#32))

/-- The diversity loss: minus the mean distance of the nodes, the root taken where the square is positive. -/
def diversity (s : A F S1024x1024 .f32) : A F S_ .f32 :=
  Host.negf (Host.divf (Host.reduceAdd
    (select (cmpf .ogt s (broadcastInDim S1024x1024 ![] bcast_S_S1024x1024 (constant S_ .f32 0x00000000#32)))
      (Host.sqrt (select (cmpf .ogt s (broadcastInDim S1024x1024 ![] bcast_S_S1024x1024 (constant S_ .f32 0x00000000#32))) s
        (broadcastInDim S1024x1024 ![] bcast_S_S1024x1024 (constant S_ .f32 0x3F800000#32))))
      (broadcastInDim S1024x1024 ![] bcast_S_S1024x1024 (constant S_ .f32 0x00000000#32)))
    (constant S_ .f32 0x00000000#32) reducesTo_S1024x1024_S_d0_1 h_S_) (constant S_ .f32 0x49800000#32))

/-- The squared differences of consecutive samples. -/
def steps (z : A F S16x512x256 .f32) : A F S16x511x256 .f32 :=
  mulf
    (subf (extractStridedSlice S16x511x256 ![0, 1, 0] z slices_S16x512x256_S16x511x256_0_1_0)
      (extractStridedSlice S16x511x256 ![0, 0, 0] z slices_S16x512x256_S16x511x256_0_0_0))
    (subf (extractStridedSlice S16x511x256 ![0, 1, 0] z slices_S16x512x256_S16x511x256_0_1_0)
      (extractStridedSlice S16x511x256 ![0, 0, 0] z slices_S16x512x256_S16x511x256_0_0_0))

/-- The time-smoothness loss, its sum begun at a given value. -/
def smooth (s : A F S16x511x256 .f32) (u : A F S_ .f32) : A F S_ .f32 :=
  mulf (Host.divf (Host.reduceAdd s u reducesTo_S16x511x256_S_d0_1_2 h_S_) (constant S_ .f32 0x49FF8000#32))
    (constant S_ .f32 0x3F666666#32)

/-- The nearest nodes without each sequence's last. -/
def earlier (b : A F S16x512 .i32) : A F S16x511 .i32 := extractStridedSlice S16x511 ![0, 0] b slices_S16x512_S16x511_0_0
/-- The nearest nodes without each sequence's first. -/
def later (b : A F S16x512 .i32) : A F S16x511 .i32 := extractStridedSlice S16x511 ![0, 1] b slices_S16x512_S16x511_0_1

/-- Division by 32, rounded down, as the program spells it: the machine's division, corrected where signs differ. -/
def gridRow (x : A F S16x511 .i32) : A F S16x511 .i32 :=
  let n : A F S_ .i32 := constantI S_ 32 32#32
  let d : A F S16x511 .i32 := Host.divsi x (broadcastInDim S16x511 ![] bcast_S_S16x511 n)
  select (andi (cmpi .ne (signi x) (broadcastInDim S16x511 ![] bcast_S_S16x511 (signi n)))
      (cmpi .ne (Host.remsi x (broadcastInDim S16x511 ![] bcast_S_S16x511 n)) (broadcastInDim S16x511 ![] bcast_S_S16x511 (constantI S_ 32 0#32))))
    (subi d (broadcastInDim S16x511 ![] bcast_S_S16x511 (constantI S_ 32 1#32))) d

/-- The remainder by 32, as the program spells it: the machine's remainder, corrected where it is negative. -/
def gridCol (x : A F S16x511 .i32) : A F S16x511 .i32 :=
  let n : A F S_ .i32 := constantI S_ 32 32#32
  let k : A F S_ .i32 := select (cmpi .eq n (constantI S_ 32 0#32)) (constantI S_ 32 1#32) n
  let r : A F S16x511 .i32 := Host.remsi x (broadcastInDim S16x511 ![] bcast_S_S16x511 k)
  select (andi (cmpi .ne (cmpi .slt r (broadcastInDim S16x511 ![] bcast_S_S16x511 (constantI S_ 32 0#32)))
        (broadcastInDim S16x511 ![] bcast_S_S16x511 (cmpi .slt k (constantI S_ 32 0#32))))
      (cmpi .ne r (broadcastInDim S16x511 ![] bcast_S_S16x511 (constantI S_ 32 0#32))))
    (addi r (broadcastInDim S16x511 ![] bcast_S_S16x511 k)) r

/-- The neighbourhood loss of the grid rows and columns of consecutive nodes. -/
def near (r c r' c' : A F S16x511 .i32) : A F S_ .f32 :=
  Host.divf (Host.reduceAdd
      (Host.divf (Host.reduceAdd (sitofp .f32 (addi (absi (subi r r')) (absi (subi c c')))) (constant S_ .f32 0x00000000#32)
          reducesTo_S16x511_S16_d1 h_S_) (broadcastInDim S16 ![] bcast_S_S16 (constant S_ .f32 0x43FF8000#32)))
      (constant S_ .f32 0x00000000#32) reducesTo_S16_S_d0 h_S_)
    (constant S_ .f32 0x41800000#32)

/-- The total loss. -/
def total (k d s n : A F S_ .f32) : A F S_ .f32 :=
  addf (addf (addf k (mulf (constant S_ .f32 0x3F000000#32) d)) (mulf (constant S_ .f32 0x3E99999A#32) s))
    (mulf (constant S_ .f32 0x3E4CCCCD#32) n)

/-- The row numbers to gather, a negative one counted from the end. -/
def rowsOf (b : A F S16x512 .i32) : A F S8192x1 .i32 :=
  let v : A F S8192 .i32 := shapeCast _ b shapeCasts_S16x512_S8192
  broadcastInDim S8192x1 ![0] bcast_S8192_S8192x1_0
    (select (cmpi .slt v (broadcastInDim S8192 ![] bcast_S_S8192 (constantI S_ 32 0#32)))
      (addi v (broadcastInDim S8192 ![] bcast_S_S8192 (constantI S_ 32 1024#32))) v)

/-- The gathered rows, a row number out of range giving no number. -/
def taken (y : A F S1024x256 .f32) (i : A F S8192x1 .i32) : A F S8192x256 .f32 :=
  select (broadcastInDim S8192x256 ![0] bcast_S8192_S8192x256_0 (Host.reduce IntOp.andi
      (andi (cmpi .sge i (broadcastInDim S8192x1 ![] bcast_S_S8192x1 (constantI S_ 32 0#32)))
        (cmpi .sle i (broadcastInDim S8192x1 ![0, 1] bcast_S1x1_S8192x1_0_1 (broadcastInDim S1x1 ![1] bcast_S1_S1x1_1 (constantI S1 32 1023#32)))))
      (constantI S_ 1 1#1) reducesTo_S8192x1_S8192_d1 h_S_))
    (Host.gather gather_S1024x256_S8192x1_S8192x256_1_0_n_n_0_1_1256 y i)
    (broadcastInDim S8192x256 ![] bcast_S_S8192x256 (constant S_ .f32 0x7FC00000#32))

/-- The samples moved a tenth of the way towards their nodes. -/
def moved (z : A F S16x512x256 .f32) (t : A F S8192x256 .f32) : A F S16x512x256 .f32 :=
  addf z (mulf (broadcastInDim S16x512x256 ![] bcast_S_S16x512x256 (constant S_ .f32 0x3DCCCCCD#32))
    (subf (shapeCast _ t shapeCasts_S8192x256_S16x512x256) z))

/-! ## The results as functions of the arguments -/

section Results
variable (z : A F S16x512x256 .f32) (n : A F S32x32x256 .f32)

/-- The distances of samples and nodes. -/
def dist : A F S8192x1024 .f32 := root (sqDist (samples z weights) (codebook n))
/-- The soft assignments. -/
def q : A F S8192x1024 .f32 := byRow (student (dist z n))
/-- The target distribution. -/
def p : A F S8192x1024 .f32 := byRow (byColumn (q z n))
/-- The nearest nodes. -/
def bmu : A F S16x512 .i32 := best (dist z n)
/-- The Kullback-Leibler loss. -/
def klLoss : A F S_ .f32 := kl (p z n) (q z n)
/-- The diversity loss. -/
def divLoss : A F S_ .f32 := diversity (sqGap (codebook n))
/-- The time-smoothness loss. -/
def smoothLoss : A F S_ .f32 := smooth (steps z) (constant S_ .f32 0x00000000#32)
/-- The neighbourhood loss. -/
def nearLoss : A F S_ .f32 :=
  near (gridRow (earlier (bmu z n))) (gridCol (earlier (bmu z n))) (gridRow (later (bmu z n))) (gridCol (later (bmu z n)))
/-- The total loss. -/
def totalLoss : A F S_ .f32 := total (klLoss z n) (divLoss n) (smoothLoss z) (nearLoss z n)
/-- The samples moved towards their nodes. -/
def som : A F S16x512x256 .f32 := moved z (taken (codebook n) (rowsOf (bmu z n)))

end Results

/-! ## What the operations leave in the buffers -/

section Reads
variable (V : Valuation τ sig (Elt F))

theorem after_split (l₁ l₂ : List (HloOp τ sig (Elt F))) : after (l₁ ++ l₂) V = after l₂ (after l₁ V) := by
  induction l₁ generalizing V with
  | nil => rfl
  | cons o l ih => exact ih _

theorem weights_read : after opsWeights V (no_index (Proc.devRef .tc main_v6)) = weights := by
  unfold opsWeights; after_reads_simp; rfl
theorem samples_read : after opsInputs V (no_index (Proc.devRef .tc main_v10))
    = samples (V (Proc.devRef .tc main_arg0)) (V (Proc.devRef .tc main_v6)) := by
  unfold opsInputs; after_reads_simp; rfl
theorem codebook_read : after opsInputs V (no_index (Proc.devRef .tc main_v11)) = codebook (V (Proc.devRef .tc main_arg1)) := by
  unfold opsInputs; after_reads_simp; rfl
theorem dist_read : after opsDist V (no_index (Proc.devRef .tc main_v32))
    = root (sqDist (V (Proc.devRef .tc main_v10)) (V (Proc.devRef .tc main_v11))) := by
  unfold opsDist; after_reads_simp; rfl
theorem q_read : after opsSoft V (no_index (Proc.devRef .tc main_v44)) = byRow (student (V (Proc.devRef .tc main_v32))) := by
  unfold opsSoft; after_reads_simp; rfl
theorem p_read : after opsTarget V (no_index (Proc.devRef .tc main_v54)) = byRow (byColumn (V (Proc.devRef .tc main_v44))) := by
  unfold opsTarget; after_reads_simp; rfl
/-- The least entries and their labels, whatever fold computes them. -/
theorem fold_read (f : A F S8192x1024 .f32 → A F S8192x1024 .i32 → A F S_ .f32 → A F S_ .i32 → A F S8192 .f32)
    (g : A F S8192x1024 .f32 → A F S8192x1024 .i32 → A F S_ .f32 → A F S_ .i32 → A F S8192 .i32) :
    after [ nullary main_call2_v0 (iotaInDim S8192x1024 32 1),
      nullary main_call2_cst (constant S_ .f32 0x7F800000#32),
      nullary main_call2_c (constantI S_ 32 0#32),
      quaternary main_v32 main_call2_v0 main_call2_cst main_call2_c main_call2_v1_0 f,
      quaternary main_v32 main_call2_v0 main_call2_cst main_call2_c main_v55 g,
      reshape main_v55 main_v56 (rfl : (.i32 : EltTy) = .i32) shapeCasts_S8192_S16x512 ] V (no_index (Proc.devRef .tc main_v56))
    = (shapeCast S16x512 (g (V (Proc.devRef .tc main_v32)) (iotaInDim S8192x1024 32 1) (constant S_ .f32 0x7F800000#32)
        (constantI S_ 32 0#32)) shapeCasts_S8192_S16x512 : A F S16x512 .i32) := by
  after_reads_simp; rfl

theorem bmu_read : after opsBest V (no_index (Proc.devRef .tc main_v56)) = best (V (Proc.devRef .tc main_v32)) :=
  fold_read V leastOf nearestOf
theorem kl_read : after opsKl V (no_index (Proc.devRef .tc main_v62))
    = kl (V (Proc.devRef .tc main_v54)) (V (Proc.devRef .tc main_v44)) := by
  unfold opsKl; after_reads_simp; rfl
theorem div_read : after opsDiv V (no_index (Proc.devRef .tc main_v86)) = diversity (sqGap (V (Proc.devRef .tc main_v11))) := by
  unfold opsDiv; after_reads_simp; rfl
theorem step_read : after opsStep V (no_index (Proc.devRef .tc main_v90)) = steps (V (Proc.devRef .tc main_arg0)) := by
  unfold opsStep; after_reads_simp; rfl
theorem zero_read : after opsStep V (no_index (Proc.devRef .tc main_cst_27)) = constant S_ .f32 0x00000000#32 := by
  unfold opsStep
  after_reads_simp
theorem smooth_read : after opsSmooth V (no_index (Proc.devRef .tc main_v93))
    = smooth (V (Proc.devRef .tc main_v90)) (V (Proc.devRef .tc main_cst_27)) := by
  unfold opsSmooth; after_reads_simp; rfl
theorem earlier_read : after opsPairs V (no_index (Proc.devRef .tc main_v94)) = earlier (F := F) (V (Proc.devRef .tc main_v56)) := by
  unfold opsPairs; after_reads_simp; rfl
theorem later_read : after opsPairs V (no_index (Proc.devRef .tc main_v95)) = later (F := F) (V (Proc.devRef .tc main_v56)) := by
  unfold opsPairs; after_reads_simp; rfl
theorem rowPrev_read : after opsRowPrev V (no_index (Proc.devRef .tc main_v96)) = gridRow (F := F) (V (Proc.devRef .tc main_v94)) := by
  unfold opsRowPrev; after_reads_simp; rfl
theorem colPrev_read : after opsColPrev V (no_index (Proc.devRef .tc main_v97)) = gridCol (F := F) (V (Proc.devRef .tc main_v94)) := by
  unfold opsColPrev; after_reads_simp; rfl
theorem rowNext_read : after opsRowNext V (no_index (Proc.devRef .tc main_v98)) = gridRow (F := F) (V (Proc.devRef .tc main_v95)) := by
  unfold opsRowNext; after_reads_simp; rfl
theorem colNext_read : after opsColNext V (no_index (Proc.devRef .tc main_v99)) = gridCol (F := F) (V (Proc.devRef .tc main_v95)) := by
  unfold opsColNext; after_reads_simp; rfl
theorem near_read : after opsNear V (no_index (Proc.devRef .tc main_v110))
    = near (V (Proc.devRef .tc main_v96)) (V (Proc.devRef .tc main_v97)) (V (Proc.devRef .tc main_v98)) (V (Proc.devRef .tc main_v99)) := by
  unfold opsNear; after_reads_simp; rfl
theorem total_read : after opsTotal V (no_index (Proc.devRef .tc main_v116))
    = total (V (Proc.devRef .tc main_v62)) (V (Proc.devRef .tc main_v86)) (V (Proc.devRef .tc main_v93)) (V (Proc.devRef .tc main_v110)) := by
  unfold opsTotal; after_reads_simp; rfl
theorem take_read : after opsTake V (no_index (Proc.devRef .tc main_v118))
    = taken (V (Proc.devRef .tc main_v11)) (rowsOf (F := F) (V (Proc.devRef .tc main_v56))) := by
  unfold opsTake; after_reads_simp; rfl
theorem som_read : after opsSom V (no_index (Proc.devRef .tc main_v123))
    = moved (V (Proc.devRef .tc main_arg0)) (V (Proc.devRef .tc main_v118)) := by
  unfold opsSom; after_reads_simp; rfl

end Reads

end Cert.ReferenceIdeal.Steps

end
-- ==== Proof.RefValue.lean ====
/- The reference program's results over real arguments. -/
module

public import proofs.«01_k».proof.Proof.Inputs
public import proofs.«01_k».proof.Proof.RefRead
public import Idealize.ShloMosaic.Lib.Routing.Ops

@[expose] public section

set_option maxRecDepth 16384

noncomputable section

namespace Cert.ReferenceIdeal.Value

open Cert.ReferenceIdeal Cert.ReferenceIdeal.Gen Cert.ReferenceIdeal.Steps Cert.Reals Cert.Spec Idealize.ShloMosaic Idealize.ShloMosaic.TcCoe Idealize.SL.Sem

/-! ## Distances and assignments -/

theorem weights_value (t : Fin 512) : (weights (F := Ideal)) (ix1 t) = (decay t : EReal) := by
  pointwise [weights]
  exact decay_word t

section Given
variable {z : FVec Ideal S16x512x256 .f32} {n : FVec Ideal S32x32x256 .f32} {Z : Fin 8192 → Fin 256 → ℝ} {Y : Fin 1024 → Fin 256 → ℝ}
  (G : Given z n Z Y)

include G

theorem samples_value (i : Fin 8192) (k : Fin 256) : samples (F := Ideal) z weights (ix2 i k) = ((Z i k * decay (stepOf i) : ℝ) : EReal) := by
  pointwise [samples]
  rw [G.z, rowOf_parts, weights_value, ← EReal.coe_mul]
  rfl

theorem codebook_value (j : Fin 1024) (k : Fin 256) : codebook (F := Ideal) n (ix2 j k) = (Y j k : EReal) := by
  pointwise [codebook]
  exact (G.n _ _ _).trans (by rw [cellOf_parts])

end Given

/-- The squared distances of samples and nodes. -/
theorem sqDist_value {x : FVec Ideal S8192x256 .f32} {y : FVec Ideal S1024x256 .f32} {u : Fin 8192 → Fin 256 → ℝ} {v : Fin 1024 → Fin 256 → ℝ}
    (hx : ∀ i k, x (ix2 i k) = (u i k : EReal)) (hy : ∀ j k, y (ix2 j k) = (v j k : EReal)) (i : Fin 8192) (j : Fin 1024) :
    sqDist (F := Ideal) x y (ix2 i j) = (gap (u i) (v j) : EReal) := by
  pointwise [sqDist]
  simp only [hx, hy, word_two, ← EReal.coe_mul, ← coe_sum, ← EReal.coe_add, ← EReal.coe_sub, ← EReal.coe_zero, ← coe_max]
  rfl

/-- The root of a number where it is positive and zero elsewhere is the root of a number that is not negative. -/
theorem root_where {r : ℝ} (h : 0 ≤ r) : (if (0 : EReal) < (r : EReal) then Ideal.sqrt (if (0 : EReal) < (r : EReal) then (r : EReal) else 1) else 0)
    = ((Real.sqrt r : ℝ) : EReal) := by
  by_cases hr : 0 < r
  · rw [if_pos (EReal.coe_pos.mpr hr), if_pos (EReal.coe_pos.mpr hr), sqrt_coe h]
  · rw [if_neg (fun h' => hr (EReal.coe_pos.mp h')), le_antisymm (not_lt.mp hr) h, Real.sqrt_zero, EReal.coe_zero]

theorem root_value {s : FVec Ideal S8192x1024 .f32} {r : Fin 8192 → Fin 1024 → ℝ} (hs : ∀ i j, s (ix2 i j) = (r i j : EReal)) (h : ∀ i j, 0 ≤ r i j)
    (i : Fin 8192) (j : Fin 1024) : root (F := Ideal) s (ix2 i j) = ((Real.sqrt (r i j) : ℝ) : EReal) := by
  pointwise [root]
  simp only [hs]
  exact root_where (h i j)

/-- The soft assignments from the distances. -/
theorem share_value {d : FVec Ideal S8192x1024 .f32} {r : Fin 8192 → Fin 1024 → ℝ} (hd : ∀ i j, d (ix2 i j) = (r i j : EReal)) (h : ∀ i j, 0 ≤ r i j)
    (i : Fin 8192) (j : Fin 1024) : byRow (F := Ideal) (student d) (ix2 i j) = (share (r i) j : EReal) := by
  have e : ∀ l, Ideal.div 1 (Ideal.pow (1 + Ideal.div (r i l : EReal) 1) 1) = ((1 / (1 + r i l) : ℝ) : EReal) := fun l => by
    have := h i l
    rw [← EReal.coe_one, div_coe one_ne_zero, ← EReal.coe_add, div_one, EReal.coe_one, pow_one_coe, ← EReal.coe_one, div_coe (by positivity)]
  pointwise [byRow, student]
  simp only [hd, e, ← coe_sum]
  rw [div_coe (share_sum_pos (h i)).ne']
  rfl

/-- The target distribution from the assignments. -/
theorem goal_value {q : FVec Ideal S8192x1024 .f32} {r : Fin 8192 → Fin 1024 → ℝ} (hq : ∀ i j, q (ix2 i j) = (r i j : EReal)) (h : ∀ i j, 0 < r i j)
    (i : Fin 8192) (j : Fin 1024) : byRow (F := Ideal) (byColumn q) (ix2 i j) = (goal (r i) (fun j => ∑ i, r i j * r i j) j : EReal) := by
  have hs : ∀ j, 0 < ∑ i, r i j * r i j := fun j => Finset.sum_pos (fun i _ => mul_pos (h i j) (h i j)) ⟨0, Finset.mem_univ _⟩
  have e : ∀ l, Ideal.div ((r i l * r i l : ℝ) : EReal) ((∑ x, r x l * r x l : ℝ) : EReal) = ((r i l * r i l / ∑ x, r x l * r x l : ℝ) : EReal) :=
    fun l => div_coe (hs l).ne'
  pointwise [byRow, byColumn]
  simp only [hq, ← EReal.coe_mul, ← coe_sum, e]
  exact div_coe (weights_pos (h i) hs).ne'

/-! ## The losses -/

theorem klOf_value {p q : FVec Ideal S8192x1024 .f32} {g r : Fin 8192 → Fin 1024 → ℝ} (hp : ∀ i j, p (ix2 i j) = (g i j : EReal))
    (hq : ∀ i j, q (ix2 i j) = (r i j : EReal)) (hg : ∀ i j, 0 < g i j) (hr : ∀ i j, 0 < r i j) (i : S_.Idx) :
    kl (F := Ideal) p q i = (((∑ i, ∑ j, g i j * (Real.log (g i j) - Real.log (r i j))) / 8192 : ℝ) : EReal) := by
  have e1 : ∀ i j, Ideal.log (g i j : EReal) = ((Real.log (g i j) : ℝ) : EReal) := fun i j => log_coe (hg i j)
  have e2 : ∀ i j, Ideal.log (r i j : EReal) = ((Real.log (r i j) : ℝ) : EReal) := fun i j => log_coe (hr i j)
  pointwise [kl]
  simp only [hp, hq, e1, e2, word_rows, ← EReal.coe_sub, ← EReal.coe_mul, ← coe_sum]
  exact div_coe (by norm_num)

/-- The squared distances of the nodes to one another. -/
theorem sqGap_value {y : FVec Ideal S1024x256 .f32} {v : Fin 1024 → Fin 256 → ℝ}
    (hy : ∀ j k, y (ix2 j k) = (v j k : EReal)) (i j : Fin 1024) :
    sqGap (F := Ideal) y (ix2 i j) = (gap (v i) (v j) : EReal) := by
  pointwise [sqGap]
  simp only [hy, word_two, ← EReal.coe_mul, ← coe_sum, ← EReal.coe_add, ← EReal.coe_sub, ← EReal.coe_zero, ← coe_max]
  rfl

theorem diversity_value {s : FVec Ideal S1024x1024 .f32} {r : Fin 1024 → Fin 1024 → ℝ} (hs : ∀ i j, s (ix2 i j) = (r i j : EReal)) (h : ∀ i j, 0 ≤ r i j)
    (i : S_.Idx) : diversity (F := Ideal) s i = (((0 - ∑ i, ∑ j, Real.sqrt (r i j)) / 1048576 : ℝ) : EReal) := by
  pointwise [diversity]
  simp only [hs, root_where (h _ _), ← coe_sum, word_pairs]
  rw [div_coe (by norm_num), ← EReal.coe_neg]
  congr 1; ring

theorem smoothLoss_value {z : FVec Ideal S16x512x256 .f32} {n : FVec Ideal S32x32x256 .f32} {Z : Fin 8192 → Fin 256 → ℝ} {Y : Fin 1024 → Fin 256 → ℝ}
    (G : Given z n Z Y) (i : S_.Idx) : smoothLoss (F := Ideal) z i = (smoothv Z : EReal) := by
  pointwise [smoothLoss, smooth, steps]
  simp only [G.z, ← EReal.coe_sub, ← EReal.coe_mul, ← coe_sum, word_steps, word_decay]
  rw [div_coe (by norm_num), ← EReal.coe_mul]
  congr 1
  unfold smoothv stepSum
  rw [← Finset.sum_mul, div_mul_eq_mul_div, mul_div_assoc]
  norm_num

/-- The grid row of a node's word. -/
theorem row_word : ∀ a : Fin 1024, Scalar.select
      (IntOp.andi
        (IntOp.cmpi CmpIPredicate.ne
          (if BitVec.ofNat 32 a.val = 0 then (0 : BitVec 32) else if (BitVec.ofNat 32 a.val).msb = true then -1 else 1)
          (if 32#32 = 0 then (0 : BitVec 32) else if (32#32).msb = true then -1 else 1))
        (IntOp.cmpi CmpIPredicate.ne (IntOp.remsi ArithUnit.host (BitVec.ofNat 32 a.val) 32#32) 0#32))
      (IntOp.subi (IntOp.divsi ArithUnit.host (BitVec.ofNat 32 a.val) 32#32) 1#32)
      (IntOp.divsi ArithUnit.host (BitVec.ofNat 32 a.val) 32#32) = BitVec.ofNat 32 (a.val / 32) := by decide +kernel

/-- The grid column of a node's word. -/
theorem col_word : ∀ a : Fin 1024, Scalar.select
      (IntOp.andi
        (IntOp.cmpi CmpIPredicate.ne
          (IntOp.cmpi CmpIPredicate.slt
            (IntOp.remsi ArithUnit.host (BitVec.ofNat 32 a.val)
              (Scalar.select (IntOp.cmpi CmpIPredicate.eq 32#32 0#32) 1#32 32#32))
            0#32)
          (IntOp.cmpi CmpIPredicate.slt (Scalar.select (IntOp.cmpi CmpIPredicate.eq 32#32 0#32) 1#32 32#32) 0#32))
        (IntOp.cmpi CmpIPredicate.ne
          (IntOp.remsi ArithUnit.host (BitVec.ofNat 32 a.val)
            (Scalar.select (IntOp.cmpi CmpIPredicate.eq 32#32 0#32) 1#32 32#32))
          0#32))
      (IntOp.addi
        (IntOp.remsi ArithUnit.host (BitVec.ofNat 32 a.val)
          (Scalar.select (IntOp.cmpi CmpIPredicate.eq 32#32 0#32) 1#32 32#32))
        (Scalar.select (IntOp.cmpi CmpIPredicate.eq 32#32 0#32) 1#32 32#32))
      (IntOp.remsi ArithUnit.host (BitVec.ofNat 32 a.val)
        (Scalar.select (IntOp.cmpi CmpIPredicate.eq 32#32 0#32) 1#32 32#32)) = BitVec.ofNat 32 (a.val % 32) := by decide +kernel

theorem row_value {x : IVec S16x511 32} {a : Fin 16 → Fin 511 → Fin 1024} (hx : ∀ s t, x (ix2 s t) = BitVec.ofNat 32 (a s t)) (s : Fin 16) (t : Fin 511) :
    gridRow (F := Ideal) x (ix2 s t) = BitVec.ofNat 32 ((a s t).val / 32) := by
  pointwise [gridRow]
  simp only [hx]
  exact row_word (a s t)

theorem col_value {x : IVec S16x511 32} {a : Fin 16 → Fin 511 → Fin 1024} (hx : ∀ s t, x (ix2 s t) = BitVec.ofNat 32 (a s t)) (s : Fin 16) (t : Fin 511) :
    gridCol (F := Ideal) x (ix2 s t) = BitVec.ofNat 32 ((a s t).val % 32) := by
  pointwise [gridCol]
  simp only [hx]
  exact col_word (a s t)

theorem near_value {r c r' c' : IVec S16x511 32} {a b : Fin 16 → Fin 511 → Fin 1024}
    (hr : ∀ s t, r (ix2 s t) = BitVec.ofNat 32 ((a s t).val / 32)) (hc : ∀ s t, c (ix2 s t) = BitVec.ofNat 32 ((a s t).val % 32))
    (hr' : ∀ s t, r' (ix2 s t) = BitVec.ofNat 32 ((b s t).val / 32)) (hc' : ∀ s t, c' (ix2 s t) = BitVec.ofNat 32 ((b s t).val % 32)) (i : S_.Idx) :
    near (F := Ideal) r c r' c' i = (((∑ s, ((∑ t, hop (b s t) (a s t) : ℕ) : ℝ)) / 8176 : ℝ) : EReal) := by
  have e : ∀ s t, (FloatOps.sitofp FTy.f32 (BitVec.ofNat 32 (hop (a s t) (b s t))) : Ideal .f32) = ((hop (a s t) (b s t) : ℝ) : EReal) := fun s t =>
    sitofp_nat (by have := hop_le (a s t).isLt (b s t).isLt; omega)
  have e1 : ∀ x : ℝ, Ideal.div (x : EReal) ((511 : ℝ) : EReal) = ((x / 511 : ℝ) : EReal) := fun x => div_coe (by norm_num)
  pointwise [near]
  simp only [hr, hc, hr', hc', hop_word (Fin.is_lt _) (Fin.is_lt _), e, ← coe_sum, word_times, word_seqs, e1]
  rw [div_coe (by norm_num)]
  congr 1
  simp only [hop_comm, Nat.cast_sum]
  rw [← Finset.sum_div, div_div]
  norm_num

/-! ## The samples moved -/

theorem index_word : ∀ a : Fin 1024, Scalar.select (IntOp.cmpi CmpIPredicate.slt (BitVec.ofNat 32 a.val) 0#32)
    (IntOp.addi (BitVec.ofNat 32 a.val) 1024#32) (BitVec.ofNat 32 a.val) = BitVec.ofNat 32 a.val := by decide +kernel

theorem range_word : ∀ a : Fin 1024, IntOp.andi (IntOp.cmpi CmpIPredicate.sge (BitVec.ofNat 32 a.val) 0#32)
    (IntOp.cmpi CmpIPredicate.sle (BitVec.ofNat 32 a.val) 1023#32) = 1#1 := by decide +kernel

theorem rowsOf_value {b : IVec S16x512 32} {a : Fin 16 → Fin 512 → Fin 1024} (hb : ∀ s t, b (ix2 s t) = BitVec.ofNat 32 (a s t)) (i : Fin 8192) (u : Fin 1) :
    rowsOf (F := Ideal) b (ix2 i u) = BitVec.ofNat 32 (a ⟨i.val / 512, by omega⟩ ⟨i.val % 512, by omega⟩) := by
  pointwise [rowsOf]
  simp only [hb]
  exact index_word _

/-- A row number in range gathers its row. -/
theorem taken_value {y : FVec Ideal S1024x256 .f32} {x : IVec S8192x1 32} {a : Fin 8192 → Fin 1024} (hx : ∀ i u, x (ix2 i u) = BitVec.ofNat 32 (a i))
    (i : Fin 8192) (k : Fin 256) : taken (F := Ideal) y x (ix2 i k) = y (ix2 (a i) k) := by
  have g : Host.gather gather_S1024x256_S8192x1_S8192x256_1_0_n_n_0_1_1256 y x (ix2 i k) = y (ix2 (a i) k) :=
    Routing.gather_row gather_S1024x256_S8192x1_S8192x256_1_0_n_n_0_1_1256 rfl rfl rfl rfl rfl y x i k (a i) (hx i 0) (by norm_num)
  pointwise [taken]
  rw [g]
  simp only [hx, range_word]
  rw [Finset.univ_unique, Finset.fold_singleton]
  rfl

/-- The labels by sequence and step. -/
theorem steps_of_rows (a : IVec S8192 32) (b : Fin 16) (t : Fin 512) :
    (shapeCast S16x512 a shapeCasts_S8192_S16x512 : IVec S16x512 32) (ix2 b t) = a (ix1 (rowOf b t)) := by
  pointwise
  rfl

theorem earlier_value (x : IVec S16x512 32) (b : Fin 16) (t : Fin 511) : earlier (F := Ideal) x (ix2 b t) = x (ix2 b ⟨t.val, by omega⟩) := by
  pointwise [earlier]

theorem later_value (x : IVec S16x512 32) (b : Fin 16) (t : Fin 511) : later (F := Ideal) x (ix2 b t) = x (ix2 b ⟨1 + t.val, by omega⟩) := by
  pointwise [later]

/-- The samples moved towards given rows. -/
theorem moved_value {z : FVec Ideal S16x512x256 .f32} {n : FVec Ideal S32x32x256 .f32} {Z : Fin 8192 → Fin 256 → ℝ} {Y : Fin 1024 → Fin 256 → ℝ}
    (G : Given z n Z Y) {x : FVec Ideal S8192x256 .f32} {v : Fin 8192 → Fin 256 → ℝ} (hx : ∀ i k, x (ix2 i k) = (v i k : EReal)) (b : Fin 16) (t : Fin 512)
    (k : Fin 256) : moved (F := Ideal) z x (ix3 b t k)
      = ((Z (rowOf b t) k + 13421773 / 134217728 * (v (rowOf b t) k - Z (rowOf b t) k) : ℝ) : EReal) := by
  pointwise [moved]
  simp only [G.z, hx, word_tenth, ← EReal.coe_sub, ← EReal.coe_mul, ← EReal.coe_add]
  rfl

/-- The total of four losses. -/
theorem total_scalar (k d s n : EReal) : total (F := Ideal) (scalar k) (scalar d) (scalar s) (scalar n)
    = scalar (((k + Ideal.ofBits .f32 0x3F000000#32 * d) + Ideal.ofBits .f32 0x3E99999A#32 * s) + Ideal.ofBits .f32 0x3E4CCCCD#32 * n) := rfl

end Cert.ReferenceIdeal.Value

end
-- ==== Proof.RefBest.lean ====
/- The reference's nearest nodes: its search for the least distance of a row ends at the first node at least distance. -/
module

public import proofs.«01_k».proof.Proof.Inputs
public import proofs.«01_k».proof.Proof.RefRead
public import Idealize.ShloMosaic.Lib.StableHlo.Predicate

@[expose] public section

set_option maxRecDepth 16384

noncomputable section

namespace Cert.ReferenceIdeal.Value

open Cert.ReferenceIdeal Cert.ReferenceIdeal.Gen Cert.ReferenceIdeal.Steps Cert.Reals Cert.Spec Idealize.ShloMosaic

/-- The search keeps the smaller value, and of equal values the one with the smaller number. -/
theorem pick (x y : EReal) (v w : BitVec 32) : reducer_argmin_f32_i32 (F := Ideal) (x, v) (y, w)
    = (if x < y then x else y, if x < y ∨ (x = y ∧ v.slt w = true) then v else w) := by
  unfold reducer_argmin_f32_i32
  simp only [Ideal.cmpf_def, Ideal.cmp, IntOp.cmpi, IntOp.ori, IntOp.andi, Scalar.select, ne_eq, not_true_eq_false]
  by_cases h1 : x < y <;> by_cases h2 : x = y <;> cases h3 : v.slt w <;> simp [h1, h2, h3]

/-- A node's distance with the node's number. -/
def numbered (f : Fin 1024 → ℝ) (j : Fin 1024) : Ideal .f32 × BitVec 32 := ((f j : EReal), BitVec.ofNat 32 j)

theorem pick_start (f : Fin 1024 → ℝ) (j : Fin 1024) : reducer_argmin_f32_i32 (F := Ideal) (⊤, 0#32) (numbered f j) = numbered f j := by
  unfold numbered
  rw [pick, if_neg (not_lt.mpr le_top), if_neg]
  rintro (h | h)
  · exact absurd h (not_lt.mpr le_top)
  · exact EReal.coe_ne_top _ h.1.symm

theorem pick_numbered (f : Fin 1024 → ℝ) (j l : Fin 1024) : reducer_argmin_f32_i32 (F := Ideal) (numbered f j) (numbered f l)
    = numbered f (if f j < f l ∨ (f j = f l ∧ j < l) then j else l) := by
  have hs : (BitVec.ofNat 32 j.val).slt (BitVec.ofNat 32 l.val) = true ↔ j < l :=
    (StableHlo.Predicate.ofBool_eq_one_iff _).symm.trans (StableHlo.Predicate.slt_ofNat_iff j.val l.val (by omega) (by omega))
  unfold numbered
  rw [pick]
  simp only [EReal.coe_lt_coe_iff, EReal.coe_eq_coe_iff, hs]
  by_cases h1 : f j < f l
  · simp [h1]
  · by_cases h2 : f j = f l ∧ j < l
    · simp [h2.1, h2.2]
    · simp [h1, h2]

/-- The search over a list of nodes, begun at a node, ends at one of them which comes before all the others. -/
theorem search_from (f : Fin 1024 → ℝ) (L : List (Fin 1024)) (j : Fin 1024) :
    ∃ m, (L.map (numbered f)).foldl (reducer_argmin_f32_i32 (F := Ideal)) (numbered f j) = numbered f m
      ∧ ∀ l, l = j ∨ l ∈ L → f m < f l ∨ (f m = f l ∧ m ≤ l) := by
  induction L generalizing j with
  | nil => exact ⟨j, rfl, fun l hl => by rcases hl with rfl | h; · exact .inr ⟨rfl, le_refl _⟩
                                         · cases h⟩
  | cons a L ih =>
    rw [List.map_cons, List.foldl_cons, pick_numbered]
    obtain ⟨m, e, h⟩ := ih (if f j < f a ∨ (f j = f a ∧ j < a) then j else a)
    refine ⟨m, e, fun l hl => ?_⟩
    have h0 := h _ (.inl rfl)
    have hm : ∀ {l}, l ∈ L → f m < f l ∨ (f m = f l ∧ m ≤ l) := fun hl => h _ (.inr hl)
    have key : (f m < f j ∨ (f m = f j ∧ m ≤ j)) ∧ (f m < f a ∨ (f m = f a ∧ m ≤ a)) := by
      split_ifs at h0 with hc
      · refine ⟨h0, ?_⟩
        rcases h0 with h0 | ⟨h0, h0'⟩ <;> rcases hc with hc | ⟨hc, hc'⟩
        · exact .inl (h0.trans hc)
        · exact .inl (hc ▸ h0)
        · exact .inl (h0 ▸ hc)
        · exact .inr ⟨h0.trans hc, h0'.trans hc'.le⟩
      · rw [not_or, not_lt, not_and, not_lt] at hc
        refine ⟨?_, h0⟩
        rcases hc.1.lt_or_eq with h1 | h1
        · rcases h0 with h0 | ⟨h0, _⟩
          · exact .inl (h0.trans h1)
          · exact .inl (h0 ▸ h1)
        · rcases h0 with h0 | ⟨h0, h0'⟩
          · exact .inl (h1 ▸ h0)
          · exact .inr ⟨h0.trans h1, h0'.trans (hc.2 h1.symm)⟩
    rcases hl with rfl | hl
    · exact key.1
    · rcases List.mem_cons.mp hl with rfl | hl
      · exact key.2
      · exact hm hl

/-- The search over a list that holds every node ends at the first node at least distance. -/
theorem search (f : Fin 1024 → ℝ) (L : List (Fin 1024)) (hL : ∀ l, l ∈ L) :
    (L.map (numbered f)).foldl (reducer_argmin_f32_i32 (F := Ideal)) (⊤, 0#32) = numbered f (first f) := by
  cases L with
  | nil => exact absurd (hL 0) List.not_mem_nil
  | cons a L =>
    rw [List.map_cons, List.foldl_cons, pick_start]
    obtain ⟨m, e, h⟩ := search_from f L a
    have h' : ∀ l, f m < f l ∨ (f m = f l ∧ m ≤ l) := fun l => h l (List.mem_cons.mp (hL l))
    rw [e]; congr 1
    refine Least.unique ⟨fun l => ?_, fun l hl => ?_⟩ (first_least f)
    · rcases h' l with h | h
      · exact h.le
      · exact h.1.le
    · rcases h' l with h | h
      · exact h
      · exact absurd h.2 (not_le.mpr hl)

/-- The entries of a row, each a function of its column, are that function's values on a list that holds every column. -/
theorem fiber_columns {a : ℕ} {t : Shape} {α β : Type} (h : (⟨2, ![a, 1024]⟩ : Shape).ReducesTo [1] t) (x : (⟨2, ![a, 1024]⟩ : Shape).Idx → α)
    (y : (⟨2, ![a, 1024]⟩ : Shape).Idx → β) (j : t.Idx) (i : Fin a) (hi : ∀ v, h.drop v = j ↔ ∃ k : Fin 1024, ix2 i k = v) (g : Fin 1024 → α × β)
    (hg : ∀ k, (x (ix2 i k), y (ix2 i k)) = g k) : ∃ L : List (Fin 1024), (∀ l, l ∈ L) ∧ Host.argReduceFiber x y h j = L.map g := by
  let c : Fin (⟨2, ![a, 1024]⟩ : Shape).numel → Fin 1024 := fun n => (⟨2, ![a, 1024]⟩ : Shape).rowMajor.symm n 1
  refine ⟨((List.finRange _).filter fun n => h.drop ((⟨2, ![a, 1024]⟩ : Shape).rowMajor.symm n) = j).map c, fun l => ?_, ?_⟩
  · refine List.mem_map.mpr ⟨(⟨2, ![a, 1024]⟩ : Shape).rowMajor (ix2 i l), List.mem_filter.mpr ⟨List.mem_finRange _, ?_⟩, ?_⟩
    · rw [Equiv.symm_apply_apply]; exact decide_eq_true ((hi _).mpr ⟨l, rfl⟩)
    · show (⟨2, ![a, 1024]⟩ : Shape).rowMajor.symm _ 1 = l
      rw [Equiv.symm_apply_apply]; rfl
  · rw [Host.argReduceFiber, List.map_map]
    refine List.map_congr_left fun n hn => ?_
    obtain ⟨k, hk⟩ := (hi _).mp (of_decide_eq_true (List.mem_filter.mp hn).2)
    rw [Function.comp_apply, show c n = k from (congrFun hk 1).symm, ← hk]
    exact hg k

/-- The rows' nearest nodes are the labels their searches end with. -/
theorem nearestOf_eq {F : FTy → Type} [FloatOps F] (x : FVec F S8192x1024 .f32) (y : IVec S8192x1024 32) (u : FVec F S_ .f32) (v : IVec S_ 32) :
    nearestOf (F := F) x y u v = fun j => (Host.argReduce reducer_argmin_f32_i32 x y u v reducesTo_S8192x1024_S8192_d1 h_S_ j).2 := rfl

theorem nearest_eq {F : FTy → Type} [FloatOps F] (d : FVec F S8192x1024 .f32) :
    nearest (F := F) d = nearestOf d (iotaInDim S8192x1024 32 1) (constant S_ .f32 0x7F800000#32) (constantI S_ 32 0#32) := rfl

/-- A row's search ends with its nearest node. -/
theorem search_row {d : FVec Ideal S8192x1024 .f32} {r : Fin 8192 → Fin 1024 → ℝ} (hd : ∀ i j, d (ix2 i j) = (r i j : EReal)) (i : Fin 8192) :
    Host.argReduce reducer_argmin_f32_i32 d (iotaInDim S8192x1024 32 1) (constant S_ .f32 0x7F800000#32) (constantI S_ 32 0#32)
      reducesTo_S8192x1024_S8192_d1 h_S_ (ix1 i) = numbered (r i) (first (r i)) := by
  have hg : ∀ k : Fin 1024, ((d (ix2 i k), iotaInDim S8192x1024 32 1 (ix2 i k)) : Ideal .f32 × BitVec 32) = numbered (r i) k := fun k => by
    unfold numbered; rw [hd]; rfl
  have h0 : (constant S_ FTy.f32 0x7F800000#32 : FVec Ideal S_ .f32) (Shape.Idx.first h_S_) = (⊤ : EReal) := word_top
  have h1 : constantI S_ 32 0#32 (Shape.Idx.first h_S_) = 0#32 := rfl
  obtain ⟨L, hL, e⟩ := fiber_columns reducesTo_S8192x1024_S8192_d1 d (iotaInDim S8192x1024 32 1) (ix1 i) i
    (reducesTo_S8192x1024_S8192_d1.fiber_r2_a1 (ix1 i)) (numbered (r i)) hg
  rw [Ideal.argReduce_eq_reduce2, Host.reduce2_eq_foldl_fiber, e, h0, h1, search (r i) L hL]

/-- Each row's nearest node. -/
theorem nearest_value {d : FVec Ideal S8192x1024 .f32} {r : Fin 8192 → Fin 1024 → ℝ} (hd : ∀ i j, d (ix2 i j) = (r i j : EReal)) :
    nearest (F := Ideal) d = fun j => BitVec.ofNat 32 (first (r (j 0))) := by
  refine (nearest_eq d).trans ((nearestOf_eq d _ _ _).trans (funext fun j => ?_))
  have e := search_row hd (j 0)
  rw [ix1_eta j] at e
  exact congrArg Prod.snd e

end Cert.ReferenceIdeal.Value

end
-- ==== Proof.RefResults.lean ====
/- The reference's eight results over real arguments are the results as real numbers. -/
module

public import proofs.«01_k».proof.Proof.RefValue
public import proofs.«01_k».proof.Proof.RefBest

@[expose] public section

set_option maxRecDepth 16384

noncomputable section

namespace Cert.ReferenceIdeal.Value

open Cert.ReferenceIdeal Cert.ReferenceIdeal.Gen Cert.ReferenceIdeal.Steps Cert.Reals Cert.Spec Idealize.ShloMosaic

variable {z : FVec Ideal S16x512x256 .f32} {n : FVec Ideal S32x32x256 .f32} {Z : Fin 8192 → Fin 256 → ℝ} {Y : Fin 1024 → Fin 256 → ℝ}
  (G : Given z n Z Y)

include G

/-- The distances. -/
theorem dist_value (i : Fin 8192) (j : Fin 1024) : dist (F := Ideal) z n (ix2 i j) = (away Z Y decay i j : EReal) :=
  root_value (sqDist_value (samples_value G) (codebook_value G)) (fun _ _ => gap_nonneg _ _) i j

/-- The assignments. -/
theorem assign_value (i : Fin 8192) (j : Fin 1024) : q (F := Ideal) z n (ix2 i j) = (assign Z Y decay i j : EReal) :=
  share_value (dist_value G) (away_nonneg Z Y decay) i j

theorem q_value : q (F := Ideal) z n = qArr Z Y := by
  funext j; rw [← ix2_eta j]; exact assign_value G _ _

/-- The target distribution. -/
theorem p_value (i : Fin 8192) (j : Fin 1024) : p (F := Ideal) z n (ix2 i j) = (goal (assign Z Y decay i) (mass Z Y decay) j : EReal) :=
  goal_value (assign_value G) (assign_pos Z Y decay) i j

theorem kl_value : klLoss (F := Ideal) z n = scalar (klv Z Y decay) := by
  funext j
  refine (klOf_value (p_value G) (assign_value G) (fun i j => goal_pos (assign_pos Z Y decay i) (mass_pos Z Y decay) j) (assign_pos Z Y decay) j).trans ?_
  simp only [klRow_eq (assign_pos Z Y decay _) (mass_pos Z Y decay)]
  rfl

theorem div_value : divLoss (F := Ideal) n = scalar (divv Y) := by
  funext j
  exact diversity_value (sqGap_value (codebook_value G)) (fun _ _ => gap_nonneg _ _) j

theorem smooth_value : smoothLoss (F := Ideal) z = scalar (smoothv Z) := funext (smoothLoss_value G)

/-- The nearest nodes. -/
theorem node_value (b : Fin 16) (t : Fin 512) : bmu (F := Ideal) z n (ix2 b t) = BitVec.ofNat 32 (node Z Y decay (rowOf b t)) := by
  have e : bmu (F := Ideal) z n = shapeCast S16x512 (nearest (dist z n)) shapeCasts_S8192_S16x512 := rfl
  rw [e, nearest_value (dist_value G)]
  exact steps_of_rows _ b t

theorem bmu_value : bmu (F := Ideal) z n = bmuArr Z Y := by
  funext j; rw [← ix2_eta j]; exact node_value G _ _

theorem near_loss : nearLoss (F := Ideal) z n = scalar (nearv Z Y decay) := by
  have e : nearLoss (F := Ideal) z n = near (gridRow (earlier (bmu z n))) (gridCol (earlier (bmu z n))) (gridRow (later (bmu z n)))
      (gridCol (later (bmu z n))) := rfl
  have hb := node_value G
  rw [e]
  generalize bmu (F := Ideal) z n = x at hb
  have he : ∀ (b : Fin 16) (t : Fin 511), earlier (F := Ideal) x (ix2 b t) = BitVec.ofNat 32 (node Z Y decay (rowOf b ⟨t.val, by omega⟩)) :=
    fun b t => (earlier_value x b t).trans (hb _ _)
  have hl : ∀ (b : Fin 16) (t : Fin 511), later (F := Ideal) x (ix2 b t) = BitVec.ofNat 32 (node Z Y decay (rowOf b ⟨1 + t.val, by omega⟩)) :=
    fun b t => (later_value x b t).trans (hb _ _)
  funext j
  exact near_value (row_value he) (col_value he) (row_value hl) (col_value hl) j

theorem total_value : totalLoss (F := Ideal) z n = scalar (totalv Z Y) := by
  have e : totalLoss (F := Ideal) z n = total (klLoss z n) (divLoss n) (smoothLoss z) (nearLoss z n) := rfl
  rw [e, kl_value G, div_value G, smooth_value G, near_loss G]
  exact total_scalar _ _ _ _

theorem som_value : som (F := Ideal) z n = somArr Z Y := by
  have e : som (F := Ideal) z n = moved z (taken (codebook n) (rowsOf (bmu z n))) := rfl
  have hb := node_value G
  rw [e]
  generalize bmu (F := Ideal) z n = x at hb
  have ht : ∀ i k, taken (F := Ideal) (codebook n) (rowsOf x) (ix2 i k) = (Y (node Z Y decay i) k : EReal) := fun i k =>
    (taken_value (a := fun i => node Z Y decay (rowOf ⟨i.val / 512, by omega⟩ ⟨i.val % 512, by omega⟩)) (rowsOf_value hb) i k).trans
      (by rw [codebook_value G, rowOf_parts])
  funext j
  rw [← ix3_eta j]
  exact moved_value G ht _ _ _

end Cert.ReferenceIdeal.Value

end
-- ==== Proof.RefRun.lean ====
/- The reference's run: every weakly fair execution ends with the results at the mathematics' functions of the two
   arguments, and the arguments unchanged. -/
module

public import proofs.«01_k».proof.Proof.RefRead

@[expose] public section

set_option maxRecDepth 16384

noncomputable section

namespace Cert.ReferenceIdeal.Steps

open Cert.ReferenceIdeal Cert.ReferenceIdeal.Gen Idealize.ShloMosaic Idealize.ShloMosaic.TcCoe Idealize.SL.Sem Idealize.ShloMosaic.StableHlo

variable {F : FTy → Type} [FloatOps F]

theorem scopedRefs_eq : (Finset.univ.filter fun b : Ref sig .tc => b.isScoped) = ∅ := by decide
theorem scopedSems_eq : (Finset.univ.filter fun sm : SemLoc sig => sm.isScoped .tc) = ∅ := by decide

/-- Every operation works on the TensorCore's buffers. -/
theorem ops_sub : (ops : List (HloOp τ sig (Elt F))).Forall fun op => op.bufs ⊆ tcRefs τ sig := by
  simp only [ops, part0, part1, part2, List.forall_append]
  unfold opsWeights opsInputs opsDist opsSoft opsTarget opsBest opsKl opsDiv opsStep opsSmooth opsPairs opsRowPrev opsColPrev
    opsRowNext opsColNext opsNear opsTotal opsTake opsSom
  simp only [List.Forall, nullary_bufs_sub, unary_bufs_sub, binary_bufs_sub, ternary_bufs_sub, quaternary_bufs_sub,
    reshape_bufs_sub, and_self]

/-- No operation makes a buffer. -/
theorem ops_fresh : ∀ op ∈ (ops : List (HloOp τ sig (Elt F))), op.fresh = ∅ := by
  rw [← List.forall_iff_forall_mem]
  simp only [ops, part0, part1, part2, List.forall_append]
  unfold opsWeights opsInputs opsDist opsSoft opsTarget opsBest opsKl opsDiv opsStep opsSmooth opsPairs opsRowPrev opsColPrev
    opsRowNext opsColNext opsNear opsTotal opsTake opsSom
  repeat' first | rfl | refine And.intro ?_ ?_

section Composed
variable (V : Valuation τ sig (Elt F))

/-- A list of operations leaves a buffer that none of them writes. -/
theorem keep {l : List (HloOp τ sig (Elt F))} (W : List (Ref sig .tc))
    (hW : l.map HloOp.writes = W.map fun w => {Proc.devRef (τ := τ) .tc w}) {r : Ref sig .tc} (hr : r ∉ W)
    (V : Valuation τ sig (Elt F)) : after l V (no_index (Proc.devRef .tc r)) = V (Proc.devRef .tc r) :=
  after_unwritten W hW hr V

/-- The results after all the operations, and the arguments. -/
theorem after_ops :
    after ops V (Proc.devRef .tc main_v123) = som (V (Proc.devRef .tc main_arg0)) (V (Proc.devRef .tc main_arg1))
    ∧ after ops V (Proc.devRef .tc main_v116) = totalLoss (V (Proc.devRef .tc main_arg0)) (V (Proc.devRef .tc main_arg1))
    ∧ after ops V (Proc.devRef .tc main_v62) = klLoss (V (Proc.devRef .tc main_arg0)) (V (Proc.devRef .tc main_arg1))
    ∧ after ops V (Proc.devRef .tc main_v86) = divLoss (V (Proc.devRef .tc main_arg1))
    ∧ after ops V (Proc.devRef .tc main_v93) = smoothLoss (V (Proc.devRef .tc main_arg0))
    ∧ after ops V (Proc.devRef .tc main_v110) = nearLoss (V (Proc.devRef .tc main_arg0)) (V (Proc.devRef .tc main_arg1))
    ∧ after ops V (Proc.devRef .tc main_v44) = q (V (Proc.devRef .tc main_arg0)) (V (Proc.devRef .tc main_arg1))
    ∧ after ops V (Proc.devRef .tc main_v56) = bmu (V (Proc.devRef .tc main_arg0)) (V (Proc.devRef .tc main_arg1))
    ∧ after ops V (Proc.devRef .tc main_arg0) = V (Proc.devRef .tc main_arg0)
    ∧ after ops V (Proc.devRef .tc main_arg1) = V (Proc.devRef .tc main_arg1) := by
  simp (disch := decide) only [ops, part0, part1, part2, after_split, weights_read, samples_read, codebook_read, dist_read,
    q_read, p_read, bmu_read, kl_read, div_read, step_read, zero_read, smooth_read, earlier_read, later_read, rowPrev_read,
    colPrev_read, rowNext_read, colNext_read, near_read, total_read, take_read, som_read,
    keep (l := opsWeights) wWeights rfl, keep (l := opsInputs) wInputs rfl, keep (l := opsDist) wDist rfl,
    keep (l := opsSoft) wSoft rfl, keep (l := opsTarget) wTarget rfl, keep (l := opsBest) wBest rfl,
    keep (l := opsKl) wKl rfl, keep (l := opsDiv) wDiv rfl, keep (l := opsStep) wStep rfl,
    keep (l := opsSmooth) wSmooth rfl, keep (l := opsPairs) wPairs rfl, keep (l := opsRowPrev) wRowPrev rfl,
    keep (l := opsColPrev) wColPrev rfl, keep (l := opsRowNext) wRowNext rfl, keep (l := opsColNext) wColNext rfl,
    keep (l := opsNear) wNear rfl, keep (l := opsTotal) wTotal rfl, keep (l := opsTake) wTake rfl, keep (l := opsSom) wSom rfl]
  refine ⟨?_, ?_, ?_, ?_, ?_, ?_, ?_, ?_, ?_, ?_⟩ <;> first | trivial | rfl

end Composed

/-- The run: the results at these functions of the arguments as launched, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v123) = som (m ((c.tc : Thread nD τ).loc main_arg0)) (m ((c.tc : Thread nD τ).loc main_arg1))
      ∧ r.2.mem ((c.tc : Thread nD τ).loc main_v116) = totalLoss (m ((c.tc : Thread nD τ).loc main_arg0)) (m ((c.tc : Thread nD τ).loc main_arg1))
      ∧ r.2.mem ((c.tc : Thread nD τ).loc main_v62) = klLoss (m ((c.tc : Thread nD τ).loc main_arg0)) (m ((c.tc : Thread nD τ).loc main_arg1))
      ∧ r.2.mem ((c.tc : Thread nD τ).loc main_v86) = divLoss (m ((c.tc : Thread nD τ).loc main_arg1))
      ∧ r.2.mem ((c.tc : Thread nD τ).loc main_v93) = smoothLoss (m ((c.tc : Thread nD τ).loc main_arg0))
      ∧ r.2.mem ((c.tc : Thread nD τ).loc main_v110) = nearLoss (m ((c.tc : Thread nD τ).loc main_arg0)) (m ((c.tc : Thread nD τ).loc main_arg1))
      ∧ r.2.mem ((c.tc : Thread nD τ).loc main_v44) = q (m ((c.tc : Thread nD τ).loc main_arg0)) (m ((c.tc : Thread nD τ).loc main_arg1))
      ∧ r.2.mem ((c.tc : Thread nD τ).loc main_v56) = bmu (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => by
    obtain ⟨h1, h2, h3, h4, h5, h6, h7, h8, h9, h10⟩ := after_ops (launchContents m c)
    exact ⟨(h c main_v123).trans h1, (h c main_v116).trans h2, (h c main_v62).trans h3, (h c main_v86).trans h4,
      (h c main_v93).trans h5, (h c main_v110).trans h6, (h c main_v44).trans h7, (h c main_v56).trans h8,
      (h c main_arg0).trans h9, (h c main_arg1).trans h10⟩)
    (run_seq scopedRefs_eq scopedSems_eq defs main (fun _ => ops) main_eq (fun _ => ops_sub) m ρ fun _ => ops_fresh)

end Cert.ReferenceIdeal.Steps

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Finite
public import proofs.«01_k».proof.Proof.KValue
public import proofs.«01_k».proof.Proof.KRun
public import proofs.«01_k».proof.Proof.RefResults
public import proofs.«01_k».proof.Proof.RefRun
public import Idealize.ShloMosaic.Adequacy
public import Idealize.ShloMosaic.Init

@[expose] public section

noncomputable section

namespace Cert.Proof

open Idealize.ShloMosaic Idealize.SL.Sem Cert.Spec

theorem frame_kernel : Cert.quiescent_Kernel (hKernel := Cert.Kernel.Gen.facts) := fun m ρ _ => Cert.Kernel.Gen.frame m ρ

theorem frame_ideal : Cert.quiescent_KernelIdeal (hKernelIdeal := Cert.KernelIdeal.Gen.facts) := fun m ρ _ => Cert.KernelIdeal.Gen.frame m ρ

/-- The reference uses no semaphores. -/
theorem frame_reference : Cert.quiescent_ReferenceIdeal (hReferenceIdeal := Cert.ReferenceIdeal.Gen.facts) := fun m ρ _ =>
  (θ_run Cert.ReferenceIdeal.defs _ _).mono
    (fun r h => ⟨fun c => (h c).2.2.2.2.2.2.2.2, Idealize.ShloMosaic.sem_eq_zero_of_no_sems (by decide) r.2⟩)
    (Cert.ReferenceIdeal.Steps.run m ρ)

/-- Over finite arguments both programs end with the results as real numbers. -/
theorem algebraic : Cert.algebraic_KernelIdeal_ReferenceIdeal_pre_finite (hKernelIdeal := Cert.KernelIdeal.Gen.facts)
    (hReferenceIdeal := Cert.ReferenceIdeal.Gen.facts) (hPre_finite := Cert.Finite.facts) := by
  intro m ρ m' ρ' hpre hagree
  choose Z Y G using fun c => Cert.Finite.given Cert.Finite.facts _ _ (hpre c)
  refine ⟨fun c => somArr (Z c) (Y c), fun c => scalar (totalv (Z c) (Y c)), fun c => scalar (klv (Z c) (Y c) decay), fun c => scalar (divv (Y c)),
    fun c => scalar (smoothv (Z c)), fun c => scalar (nearv (Z c) (Y c) decay), fun c => qArr (Z c) (Y c), fun c => bmuArr (Z c) (Y c), ?_, ?_⟩
  · refine (θ_run Cert.KernelIdeal.defs _ _).mono (fun r h c => ?_) (Cert.KernelIdeal.Gen.run_results m ρ)
    obtain ⟨h0, h1, h2, h3, h4, h5, h6, h7, h8⟩ := h c
    exact ⟨h0.trans (Cert.KernelIdeal.Value.som_value m ρ c (G c)), h1.trans (Cert.KernelIdeal.Value.total_value m ρ c (G c)),
      h2.trans (Cert.KernelIdeal.Value.kl_value m ρ c (G c)), h3.trans (Cert.KernelIdeal.Value.div_value m ρ c (G c)),
      h4.trans (Cert.KernelIdeal.Value.smooth_value m ρ c (G c)), h5.trans (Cert.KernelIdeal.Value.near_value m ρ c (G c)),
      h6.trans (Cert.KernelIdeal.Value.q_value m ρ c (G c)), h7.trans (Cert.KernelIdeal.Value.bmu_value m ρ c (G c)), h8⟩
  · refine (θ_run Cert.ReferenceIdeal.defs _ _).mono (fun r h c => ?_) (Cert.ReferenceIdeal.Steps.run m' ρ')
    obtain ⟨h0, h1, h2, h3, h4, h5, h6, h7, h8⟩ := h c
    have G' := G c
    rw [← (hagree c).1, ← (hagree c).2] at G'
    exact ⟨h0.trans (Cert.ReferenceIdeal.Value.som_value G'), h1.trans (Cert.ReferenceIdeal.Value.total_value G'),
      h2.trans (Cert.ReferenceIdeal.Value.kl_value G'), h3.trans (Cert.ReferenceIdeal.Value.div_value G'),
      h4.trans (Cert.ReferenceIdeal.Value.smooth_value G'), h5.trans (Cert.ReferenceIdeal.Value.near_loss G'),
      h6.trans (Cert.ReferenceIdeal.Value.q_value G'), h7.trans (Cert.ReferenceIdeal.Value.bmu_value G'), h8⟩

theorem claim : Cert.Claim :=
  ⟨Cert.Kernel.Gen.facts, Cert.KernelIdeal.Gen.facts, Cert.ReferenceIdeal.Gen.facts, Cert.Finite.facts,
    frame_kernel, frame_ideal, fun m ρ _ => frame_ideal m ρ trivial, frame_reference, fun m ρ _ => frame_reference m ρ trivial,
    IdealRules.named_const.statement Cert.KernelIdeal.κ "smooth_scale" .f32 0x34E6D9D3#32 _ rfl, algebraic⟩

end Cert.Proof

end
